-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_bounded [hPre_inputs_bounded : Cert.Pre_inputs_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_bounded [hPre_inputs_bounded : Cert.Pre_inputs_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_bounded [hKernelIdeal : Cert.KernelIdeal.Facts] [hPre_inputs_bounded : Cert.Pre_inputs_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_bounded [hReferenceIdeal : Cert.ReferenceIdeal.Facts] [hPre_inputs_bounded : Cert.Pre_inputs_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs_bounded [hKernelIdeal : Cert.KernelIdeal.Facts] [hReferenceIdeal : Cert.ReferenceIdeal.Facts] [hPre_inputs_bounded : Cert.Pre_inputs_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_bounded : Cert.Pre_inputs_bounded.Facts),
    quiescent_Kernel (hKernel := hKernel)
    ∧ quiescent_KernelIdeal (hKernelIdeal := hKernelIdeal)
    ∧ quiescent_KernelIdeal_pre_inputs_bounded (hKernelIdeal := hKernelIdeal) (hPre_inputs_bounded := hPre_inputs_bounded)
    ∧ quiescent_ReferenceIdeal (hReferenceIdeal := hReferenceIdeal)
    ∧ quiescent_ReferenceIdeal_pre_inputs_bounded (hReferenceIdeal := hReferenceIdeal) (hPre_inputs_bounded := hPre_inputs_bounded)
    ∧ preserves_Kernel_KernelIdeal
    ∧ algebraic_KernelIdeal_ReferenceIdeal_pre_inputs_bounded (hKernelIdeal := hKernelIdeal) (hReferenceIdeal := hReferenceIdeal) (hPre_inputs_bounded := hPre_inputs_bounded)
-- ==== Pre_inputs_bounded.lean ====
abbrev S8x2048x32 : Shape := ⟨3, ![8, 2048, 32]⟩
abbrev S8x2048x2048 : Shape := ⟨3, ![8, 2048, 2048]⟩
abbrev S_ : Shape := ⟨0, ![]⟩

class Facts : Prop where
  bcast_S_S8x2048x32 : S_.BroadcastsInDim S8x2048x32 (![] : Fin 0 → Fin S8x2048x32.rank)

variable [Facts]

def fn {F : FTy → Type} [FloatOps F] (main_arg0 : FVec F S8x2048x32 .f32) (main_arg1 : IVec S8x2048x2048 32) : IVec S8x2048x32 1 :=
  let main_v0 : FVec F S8x2048x32 .f32 := Host.absf main_arg0
  let main_cst : FVec F S_ .f32 := constant S_ .f32 0x56800000#32
  let main_v1 : FVec F S8x2048x32 .f32 := broadcastInDim S8x2048x32 ![] bcast_S_S8x2048x32 main_cst
  let main_v2 : IVec S8x2048x32 1 := cmpf .ole main_v0 main_v1
  main_v2
-- ==== Kernel.lean ====
abbrev S8x2048x32 : Shape := ⟨3, ![8, 2048, 32]⟩
abbrev S8x2048x2048 : Shape := ⟨3, ![8, 2048, 2048]⟩
abbrev S64x1x256 : Shape := ⟨3, ![64, 1, 256]⟩
abbrev S1x2048x32 : Shape := ⟨3, ![1, 2048, 32]⟩
abbrev S1x256x2048 : Shape := ⟨3, ![1, 256, 2048]⟩
abbrev S1x1x256 : Shape := ⟨3, ![1, 1, 256]⟩
abbrev S2048x32 : Shape := ⟨2, ![2048, 32]⟩
abbrev S256x2048 : Shape := ⟨2, ![256, 2048]⟩
abbrev S2048 : Shape := ⟨1, ![2048]⟩
abbrev S1x256x32 : Shape := ⟨3, ![1, 256, 32]⟩
abbrev S256x32 : Shape := ⟨2, ![256, 32]⟩
abbrev S256 : Shape := ⟨1, ![256]⟩
abbrev S256x1 : Shape := ⟨2, ![256, 1]⟩
abbrev S1x2048 : Shape := ⟨2, ![1, 2048]⟩
abbrev S32x2048 : Shape := ⟨2, ![32, 2048]⟩
abbrev S8x1x2048 : Shape := ⟨3, ![8, 1, 2048]⟩
abbrev S1x1 : Shape := ⟨2, ![1, 1]⟩
abbrev S1x1x2048 : Shape := ⟨3, ![1, 1, 2048]⟩
abbrev S2048x1 : Shape := ⟨2, ![2048, 1]⟩
abbrev S2048x2048 : Shape := ⟨2, ![2048, 2048]⟩
abbrev S1 : Shape := ⟨1, ![1]⟩
abbrev S_ : Shape := ⟨0, ![]⟩

abbrev nBuf : Space → Nat
  | .hbm => 10
  | .vmem => 17
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .i32⟩
  | .hbm, ⟨2, _⟩ => ⟨S64x1x256, .f32⟩
  | .hbm, ⟨3, _⟩ => ⟨S64x1x256, .i32⟩
  | .hbm, ⟨4, _⟩ => ⟨S64x1x256, .f32⟩
  | .hbm, ⟨5, _⟩ => ⟨S8x1x2048, .f32⟩
  | .hbm, ⟨6, _⟩ => ⟨S8x1x2048, .i32⟩
  | .hbm, ⟨7, _⟩ => ⟨S8x1x2048, .f32⟩
  | .hbm, ⟨8, _⟩ => ⟨S1x1, .f32⟩
  | .hbm, ⟨9, _⟩ => ⟨S_, .f32⟩
  | .local _ .vmem, ⟨0, _⟩ => ⟨S1x2048x32, .f32⟩
  | .local _ .vmem, ⟨1, _⟩ => ⟨S1x2048x32, .f32⟩
  | .local _ .vmem, ⟨2, _⟩ => ⟨S1x256x2048, .i32⟩
  | .local _ .vmem, ⟨3, _⟩ => ⟨S1x256x2048, .i32⟩
  | .local _ .vmem, ⟨4, _⟩ => ⟨S1x1x256, .f32⟩
  | .local _ .vmem, ⟨5, _⟩ => ⟨S1x1x256, .f32⟩
  | .local _ .vmem, ⟨6, _⟩ => ⟨S1x1x256, .i32⟩
  | .local _ .vmem, ⟨7, _⟩ => ⟨S1x1x256, .i32⟩
  | .local _ .vmem, ⟨8, _⟩ => ⟨S1x1x256, .f32⟩
  | .local _ .vmem, ⟨9, _⟩ => ⟨S1x1x256, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .i32⟩
  | .local _ .vmem, ⟨13, _⟩ => ⟨S1x1x2048, .i32⟩
  | .local _ .vmem, ⟨14, _⟩ => ⟨S1x1x2048, .f32⟩
  | .local _ .vmem, ⟨15, _⟩ => ⟨S1x1x2048, .f32⟩
  | .local _ .vmem, ⟨16, _⟩ => ⟨S1x1, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let c0_5 : Index := 0#32
  let arg1 : BitVec 32 := BitVec.ofNat 32 (i 1).val
  let c256_i32 : BitVec 32 := 256#32
  let v6 : BitVec 32 := Scalar.muli arg1 c256_i32
  let v7 : Index := Scalar.indexCast v6
  let c0_6 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S8x2048x32 : Shape := ⟨3, ![8, 2048, 32]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x32x2048 : Shape := ⟨3, ![8, 32, 2048]⟩
abbrev S2048x2048 : Shape := ⟨2, ![2048, 2048]⟩
abbrev S8x2048x1x1 : Shape := ⟨4, ![8, 2048, 1, 1]⟩
abbrev S1 : Shape := ⟨1, ![1]⟩
abbrev S1x1x1x1 : Shape := ⟨4, ![1, 1, 1, 1]⟩
abbrev S2048 : Shape := ⟨1, ![2048]⟩
abbrev S8x2048x4 : Shape := ⟨3, ![8, 2048, 4]⟩
abbrev S1x2048 : Shape := ⟨2, ![1, 2048]⟩
abbrev S8x2048x3 : Shape := ⟨3, ![8, 2048, 3]⟩
abbrev S8 : Shape := ⟨1, ![8]⟩

abbrev nBuf : Space → Nat
  | .hbm => 210
  | .vmem => 0
  | .smem => 0
  | _ => 0

abbrev hbmTy0_0 (i : Nat) : BufTy := match i % 128 with
  | 0 => ⟨S8x2048x32, .f32⟩
  | 1 => ⟨S8x2048x2048, .i32⟩
  | 2 => ⟨S8x2048x32, .f32⟩
  | 3 => ⟨S_, .f32⟩
  | 4 => ⟨S8x2048, .f32⟩
  | 5 => ⟨S8x2048x1, .f32⟩
  | 6 => ⟨S8x1x2048, .f32⟩
  | 7 => ⟨S8x2048x2048, .f32⟩
  | 8 => ⟨S8x2048x2048, .f32⟩
  | 9 => ⟨S8x2048x2048, .f32⟩
  | 10 => ⟨S8x32x2048, .f32⟩
  | 11 => ⟨S8x2048x2048, .f32⟩
  | 12 => ⟨S_, .f32⟩
  | 13 => ⟨S8x2048x2048, .f32⟩
  | 14 => ⟨S8x2048x2048, .f32⟩
  | 15 => ⟨S8x2048x2048, .f32⟩
  | 16 => ⟨S_, .i32⟩
  | 17 => ⟨S8x2048x2048, .i32⟩
  | 18 => ⟨S8x2048x2048, .i1⟩
  | 19 => ⟨S_, .f32⟩
  | 20 => ⟨S8x2048x2048, .f32⟩
  | 21 => ⟨S8x2048x2048, .i1⟩
  | 22 => ⟨S8x2048x2048, .i1⟩
  | 23 => ⟨S_, .f32⟩
  | 24 => ⟨S_, .f32⟩
  | 25 => ⟨S2048x2048, .f32⟩
  | 26 => ⟨S8x2048x2048, .f32⟩
  | 27 => ⟨S8x2048x2048, .f32⟩
  | 28 => ⟨S_, .f32⟩
  | 29 => ⟨S8x2048, .f32⟩
  | 30 => ⟨S8x2048x2048, .i32⟩
  | 31 => ⟨S_, .f32⟩
  | 32 => ⟨S_, .i32⟩
  | 33 => ⟨S8x2048, .f32⟩
  | 34 => ⟨S8x2048, .i32⟩
  | 35 => ⟨S8x2048x2048, .i32⟩
  | 36 => ⟨S_, .i32⟩
  | 37 => ⟨S_, .i32⟩
  | 38 => ⟨S8x2048x2048, .i32⟩
  | 39 => ⟨S8x2048x1, .i32⟩
  | 40 => ⟨S_, .i32⟩
  | 41 => ⟨S8x2048x1, .i32⟩
  | 42 => ⟨S8x2048x1, .i1⟩
  | 43 => ⟨S_, .i32⟩
  | 44 => ⟨S8x2048x1, .i32⟩
  | 45 => ⟨S8x2048x1, .i32⟩
  | 46 => ⟨S8x2048x1, .i32⟩
  | 47 => ⟨S8x2048x1x1, .i32⟩
  | 48 => ⟨S1, .i32⟩
  | 49 => ⟨S_, .i32⟩
  | 50 => ⟨S8x2048x1x1, .i32⟩
  | 51 => ⟨S8x2048x1x1, .i1⟩
  | 52 => ⟨S1x1x1x1, .i32⟩
  | 53 => ⟨S8x2048x1x1, .i32⟩
  | 54 => ⟨S8x2048x1x1, .i1⟩
  | 55 => ⟨S8x2048x1x1, .i1⟩
  | 56 => ⟨S_, .i1⟩
  | 57 => ⟨S8x2048x1, .i1⟩
  | 58 => ⟨S8x2048x1, .i32⟩
  | 59 => ⟨S_, .i32⟩
  | 60 => ⟨S8x2048x1, .i32⟩
  | 61 => ⟨S8x2048x1, .i32⟩
  | 62 => ⟨S8x2048, .i32⟩
  | 63 => ⟨S_, .i32⟩
  | 64 => ⟨S8x2048, .i32⟩
  | 65 => ⟨S8x2048, .i32⟩
  | 66 => ⟨S_, .i32⟩
  | 67 => ⟨S8x2048, .i32⟩
  | 68 => ⟨S8x2048, .i1⟩
  | 69 => ⟨S_, .i32⟩
  | 70 => ⟨S8x2048, .i32⟩
  | 71 => ⟨S8x2048, .i32⟩
  | 72 => ⟨S8x2048, .i32⟩
  | 73 => ⟨S8x2048x1, .i32⟩
  | 74 => ⟨S8x2048x2048, .f32⟩
  | 75 => ⟨S_, .i32⟩
  | 76 => ⟨S8x2048, .i32⟩
  | 77 => ⟨S8x2048, .i1⟩
  | 78 => ⟨S_, .i32⟩
  | 79 => ⟨S8x2048, .i32⟩
  | 80 => ⟨S8x2048, .i32⟩
  | 81 => ⟨S8x2048, .i32⟩
  | 82 => ⟨S8x2048x1, .i32⟩
  | 83 => ⟨S8x2048x2048, .i32⟩
  | 84 => ⟨S_, .f32⟩
  | 85 => ⟨S2048, .f32⟩
  | 86 => ⟨S_, .i32⟩
  | 87 => ⟨S8x2048x2048, .i32⟩
  | 88 => ⟨S8x2048x2048, .i1⟩
  | 89 => ⟨S_, .f32⟩
  | 90 => ⟨S_, .f32⟩
  | 91 => ⟨S2048x2048, .f32⟩
  | 92 => ⟨S8x2048x2048, .f32⟩
  | 93 => ⟨S8x2048x2048, .f32⟩
  | 94 => ⟨S8x2048x2048, .f32⟩
  | 95 => ⟨S8x2048x4, .f32⟩
  | 96 => ⟨S8x2048x4, .i32⟩
  | 97 => ⟨S8x2048x4, .f32⟩
  | 98 => ⟨S_, .f32⟩
  | 99 => ⟨S8x2048x4, .f32⟩
  | 100 => ⟨S8x2048x4, .f32⟩
  | 101 => ⟨S8x2048x4, .f32⟩
  | 102 => ⟨S_, .f32⟩
  | 103 => ⟨S8x2048, .f32⟩
  | 104 => ⟨S8x2048x1, .f32⟩
  | 105 => ⟨S8x2048x4, .f32⟩
  | 106 => ⟨S8x2048x4, .f32⟩
  | 107 => ⟨S8x2048x4, .f32⟩
  | 108 => ⟨S_, .f32⟩
  | 109 => ⟨S8x2048, .f32⟩
  | 110 => ⟨S8x2048, .f32⟩
  | 111 => ⟨S8x2048, .f32⟩
  | 112 => ⟨S_, .i32⟩
  | 113 => ⟨S8x2048x2048, .i32⟩
  | 114 => ⟨S8x2048x2048, .i1⟩
  | 115 => ⟨S_, .f32⟩
  | 116 => ⟨S_, .f32⟩
  | 117 => ⟨S2048x2048, .f32⟩
  | 118 => ⟨S8x2048x2048, .f32⟩
  | 119 => ⟨S8x2048x2048, .f32⟩
  | 120 => ⟨S8x2048x2048, .f32⟩
  | 121 => ⟨S8x2048x4, .f32⟩
  | 122 => ⟨S8x2048x4, .i32⟩
  | 123 => ⟨S8x2048x4, .f32⟩
  | 124 => ⟨S_, .f32⟩
  | 125 => ⟨S8x2048x4, .f32⟩
  | 126 => ⟨S8x2048x4, .f32⟩
  | 127 => ⟨S8x2048x4, .f32⟩
  | _ => ⟨S8x2048x32, .f32⟩

abbrev hbmTy0_1 (i : Nat) : BufTy := match i % 128 with
  | 0 => ⟨S_, .f32⟩
  | 1 => ⟨S8x2048, .f32⟩
  | 2 => ⟨S8x2048x1, .f32⟩
  | 3 => ⟨S8x2048x4, .f32⟩
  | 4 => ⟨S8x2048x4, .f32⟩
  | 5 => ⟨S8x2048x4, .f32⟩
  | 6 => ⟨S_, .f32⟩
  | 7 => ⟨S8x2048, .f32⟩
  | 8 => ⟨S8x2048, .f32⟩
  | 9 => ⟨S8x2048, .f32⟩
  | 10 => ⟨S1x2048, .f32⟩
  | 11 => ⟨S8x2048, .f32⟩
  | 12 => ⟨S8x2048, .f32⟩
  | 13 => ⟨S8x2048, .f32⟩
  | 14 => ⟨S_, .i32⟩
  | 15 => ⟨S8x2048x2048, .i32⟩
  | 16 => ⟨S8x2048x2048, .i1⟩
  | 17 => ⟨S_, .f32⟩
  | 18 => ⟨S_, .f32⟩
  | 19 => ⟨S2048x2048, .f32⟩
  | 20 => ⟨S8x2048x2048, .f32⟩
  | 21 => ⟨S8x2048x2048, .f32⟩
  | 22 => ⟨S8x2048x2048, .f32⟩
  | 23 => ⟨S8x2048x3, .f32⟩
  | 24 => ⟨S8x2048x3, .i32⟩
  | 25 => ⟨S8x2048x3, .f32⟩
  | 26 => ⟨S_, .f32⟩
  | 27 => ⟨S8x2048x3, .f32⟩
  | 28 => ⟨S8x2048x3, .f32⟩
  | 29 => ⟨S8x2048x3, .f32⟩
  | 30 => ⟨S_, .f32⟩
  | 31 => ⟨S8x2048, .f32⟩
  | 32 => ⟨S8x2048x1, .f32⟩
  | 33 => ⟨S8x2048x3, .f32⟩
  | 34 => ⟨S8x2048x3, .f32⟩
  | 35 => ⟨S8x2048x3, .f32⟩
  | 36 => ⟨S_, .f32⟩
  | 37 => ⟨S8x2048, .f32⟩
  | 38 => ⟨S8x2048, .f32⟩
  | 39 => ⟨S8x2048, .f32⟩
  | 40 => ⟨S_, .i32⟩
  | 41 => ⟨S8x2048x2048, .i32⟩
  | 42 => ⟨S8x2048x2048, .i1⟩
  | 43 => ⟨S_, .f32⟩
  | 44 => ⟨S_, .f32⟩
  | 45 => ⟨S2048x2048, .f32⟩
  | 46 => ⟨S8x2048x2048, .f32⟩
  | 47 => ⟨S8x2048x2048, .f32⟩
  | 48 => ⟨S8x2048x2048, .f32⟩
  | 49 => ⟨S8x2048x3, .f32⟩
  | 50 => ⟨S8x2048x3, .i32⟩
  | 51 => ⟨S8x2048x3, .f32⟩
  | 52 => ⟨S_, .f32⟩
  | 53 => ⟨S8x2048x3, .f32⟩
  | 54 => ⟨S8x2048x3, .f32⟩
  | 55 => ⟨S8x2048x3, .f32⟩
  | 56 => ⟨S_, .f32⟩
  | 57 => ⟨S8x2048, .f32⟩
  | 58 => ⟨S8x2048x1, .f32⟩
  | 59 => ⟨S8x2048x3, .f32⟩
  | 60 => ⟨S8x2048x3, .f32⟩
  | 61 => ⟨S8x2048x3, .f32⟩
  | 62 => ⟨S_, .f32⟩
  | 63 => ⟨S8x2048, .f32⟩
  | 64 => ⟨S8x2048, .f32⟩
  | 65 => ⟨S8x2048, .f32⟩
  | 66 => ⟨S8x2048, .f32⟩
  | 67 => ⟨S8x2048, .f32⟩
  | 68 => ⟨S8x2048, .f32⟩
  | 69 => ⟨S_, .f32⟩
  | 70 => ⟨S8x2048, .f32⟩
  | 71 => ⟨S8x2048, .f32⟩
  | 72 => ⟨S8x2048, .f32⟩
  | 73 => ⟨S_, .f32⟩
  | 74 => ⟨S8, .f32⟩
  | 75 => ⟨S_, .f32⟩
  | 76 => ⟨S8, .f32⟩
  | 77 => ⟨S8, .f32⟩
  | 78 => ⟨S_, .f32⟩
  | 79 => ⟨S_, .f32⟩
  | 80 => ⟨S_, .f32⟩
  | 81 => ⟨S_, .f32⟩
  | _ => ⟨S8x2048x32, .f32⟩

abbrev hbmTy (i : Nat) : BufTy := match i / 128 with
  | 0 => hbmTy0_0 i
  | 1 => hbmTy0_1 i
  | _ => ⟨S8x2048x32, .f32⟩

abbrev bufTy : (tb : Table) → Fin (tcTables nBuf tb) → BufTy
  | .hbm, ⟨i, _⟩ => hbmTy i
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v19 : Ref sig .tc := ⟨.hbm, 34, rfl⟩
abbrev main_v20 : Ref sig .tc := ⟨.hbm, 35, rfl⟩
abbrev main_call2_call0_c : Ref sig .tc := ⟨.hbm, 36, rfl⟩
abbrev main_call2_call0_v0 : Ref sig .tc := ⟨.hbm, 37, rfl⟩
abbrev main_v21 : Ref sig .tc := ⟨.hbm, 38, rfl⟩
abbrev main_v22 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v23 : Ref sig .tc := ⟨.hbm, 61, rfl⟩
abbrev main_v24 : Ref sig .tc := ⟨.hbm, 62, rfl⟩
abbrev main_c_4 : Ref sig .tc := ⟨.hbm, 63, rfl⟩
abbrev main_v25 : Ref sig .tc := ⟨.hbm, 64, rfl⟩
abbrev main_v26 : Ref sig .tc := ⟨.hbm, 65, rfl⟩
abbrev main_c_5 : Ref sig .tc := ⟨.hbm, 66, rfl⟩
abbrev main_v27 : Ref sig .tc := ⟨.hbm, 67, rfl⟩
abbrev main_v28 : Ref sig .tc := ⟨.hbm, 68, rfl⟩
abbrev main_c_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_7 : Ref sig .tc := ⟨.hbm, 75, rfl⟩
abbrev main_v34 : Ref sig .tc := ⟨.hbm, 76, rfl⟩
abbrev main_v35 : Ref sig .tc := ⟨.hbm, 77, rfl⟩
abbrev main_c_8 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_9 : Ref sig .tc := ⟨.hbm, 84, rfl⟩
abbrev main_v41 : Ref sig .tc := ⟨.hbm, 85, rfl⟩
abbrev main_c_10 : Ref sig .tc := ⟨.hbm, 86, rfl⟩
abbrev main_v42 : Ref sig .tc := ⟨.hbm, 87, rfl⟩
abbrev main_v43 : Ref sig .tc := ⟨.hbm, 88, rfl⟩
abbrev main_cst_11 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v44 : Ref sig .tc := ⟨.hbm, 93, rfl⟩
abbrev main_v45 : Ref sig .tc := ⟨.hbm, 94, rfl⟩
abbrev main_values : Ref sig .tc := ⟨.hbm, 95, rfl⟩
abbrev main_indices : Ref sig .tc := ⟨.hbm, 96, rfl⟩
abbrev main_v46 : Ref sig .tc := ⟨.hbm, 97, rfl⟩
abbrev main_cst_12 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_13 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_14 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_15 : Ref sig .tc := ⟨.hbm, 112, rfl⟩
abbrev main_v58 : Ref sig .tc := ⟨.hbm, 113, rfl⟩
abbrev main_v59 : Ref sig .tc := ⟨.hbm, 114, rfl⟩
abbrev main_cst_16 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v60 : Ref sig .tc := ⟨.hbm, 119, rfl⟩
abbrev main_v61 : Ref sig .tc := ⟨.hbm, 120, rfl⟩
abbrev main_values_17 : Ref sig .tc := ⟨.hbm, 121, rfl⟩
abbrev main_indices_18 : Ref sig .tc := ⟨.hbm, 122, rfl⟩
abbrev main_v62 : Ref sig .tc := ⟨.hbm, 123, rfl⟩
abbrev main_cst_19 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_20 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_21 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_22 : Ref sig .tc := ⟨.hbm, 142, rfl⟩
abbrev main_v78 : Ref sig .tc := ⟨.hbm, 143, rfl⟩
abbrev main_v79 : Ref sig .tc := ⟨.hbm, 144, rfl⟩
abbrev main_cst_23 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_v80 : Ref sig .tc := ⟨.hbm, 149, rfl⟩
abbrev main_v81 : Ref sig .tc := ⟨.hbm, 150, rfl⟩
abbrev main_values_24 : Ref sig .tc := ⟨.hbm, 151, rfl⟩
abbrev main_indices_25 : Ref sig .tc := ⟨.hbm, 152, rfl⟩
abbrev main_v82 : Ref sig .tc := ⟨.hbm, 153, rfl⟩
abbrev main_cst_26 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_27 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_cst_28 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_c_29 : Ref sig .tc := ⟨.hbm, 168, rfl⟩
abbrev main_v94 : Ref sig .tc := ⟨.hbm, 169, rfl⟩
abbrev main_v95 : Ref sig .tc := ⟨.hbm, 170, rfl⟩
abbrev main_cst_30 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v96 : Ref sig .tc := ⟨.hbm, 175, rfl⟩
abbrev main_v97 : Ref sig .tc := ⟨.hbm, 176, rfl⟩
abbrev main_values_31 : Ref sig .tc := ⟨.hbm, 177, rfl⟩
abbrev main_indices_32 : Ref sig .tc := ⟨.hbm, 178, rfl⟩
abbrev main_v98 : Ref sig .tc := ⟨.hbm, 179, rfl⟩
abbrev main_cst_33 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_cst_34 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_cst_35 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_cst_36 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_37 : Ref sig .tc := ⟨.hbm, 201, rfl⟩
abbrev main_v116 : Ref sig .tc := ⟨.hbm, 202, rfl⟩
abbrev main_cst_38 : Ref sig .tc := ⟨.hbm, 203, rfl⟩
abbrev main_v117 : Ref sig .tc := ⟨.hbm, 204, rfl⟩
abbrev main_v118 : Ref sig .tc := ⟨.hbm, 205, rfl⟩
abbrev main_cst_39 : Ref sig .tc := ⟨.hbm, 206, rfl⟩
abbrev main_v119 : Ref sig .tc := ⟨.hbm, 207, rfl⟩
abbrev main_cst_40 : Ref sig .tc := ⟨.hbm, 208, rfl⟩
abbrev main_v120 : Ref sig .tc := ⟨.hbm, 209, rfl⟩

abbrev nD : Nat := 1
abbrev τ : Topo := Topo.v7x

variable {F : FTy → Type} [FloatOps F]
-- ==== Proof.KernelRun.lean ====
/-
  The kernel's run, with its result: the launch of the two pipelined calls, ending with the result buffer at the contents
  the last stretch of host operations leaves.
-/
module

public import proofs.«01_k».proof.Proof.Gen.KernelIdeal.Frame

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the kernel runs to its end on every device, and its result buffer then holds what the last host
    operation computes from the contents after the second pipelined call. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c _ (mem_uc main_v5 (by decide)))

end Cert.Proof.Ker

end
-- ==== Proof.Rows.lean ====
/-
  One row of distances and labels, as both programs read it: where it counts, its greatest counted entry, the first place
  that attains it, and how many counted places there are up to there; and the word arithmetic both programs do with that
  number.
-/
module

public import Idealize.ShloMosaic.PureOps.Ideal
public import Idealize.ShloMosaic.PureOps.Reduce
public import Idealize.ShloMosaic.Lib.IndicatorCount

@[expose] public section

noncomputable section

namespace Cert.Proof

open Idealize.ShloMosaic

/-- A choice by an equality of words is the choice by the equality. -/
theorem select_eq {w : ℕ} {α : Type} (a b : BitVec w) (x y : α) : Scalar.select (IntOp.cmpi .eq a b) x y = if a = b then x else y := by
  by_cases h : a = b
  · rw [if_pos h]; simp [Scalar.select, IntOp.cmpi, h]
  · rw [if_neg h]; simp [Scalar.select, IntOp.cmpi, beq_eq_false_iff_ne.mpr h]

/-- The conjunction of an equality of words and a test, as a one-bit word. -/
theorem andi_eq {w : ℕ} (a b : BitVec w) (P : Prop) [Decidable P] [Decidable (a = b ∧ P)] :
    IntOp.andi (IntOp.cmpi .eq a b) (BitVec.ofBool (decide P)) = if a = b ∧ P then 1#1 else 0#1 := by
  by_cases h : a = b
  · by_cases hp : P <;> simp [IntOp.cmpi, IntOp.andi, h, hp]
  · by_cases hp : P <;> simp [IntOp.cmpi, IntOp.andi, beq_eq_false_iff_ne.mpr h, h, hp]

/-- The signed order of two small words. -/
theorem sle_ofNat (a b : ℕ) (ha : a < 4096) (hb : b < 4096) :
    IntOp.cmpi .sle (BitVec.ofNat 32 a) (BitVec.ofNat 32 b) = if a ≤ b then 1#1 else 0#1 := by
  have e : ∀ k : ℕ, k < 4096 → (BitVec.ofNat 32 k).toInt = (k : ℤ) := by
    intro k hk
    rw [BitVec.toInt_eq_toNat_cond, BitVec.toNat_ofNat, Nat.mod_eq_of_lt (by omega), if_pos (by omega)]
  by_cases h : a ≤ b <;> simp [IntOp.cmpi, BitVec.sle, e a ha, e b hb, h]

variable {n : ℕ}

/-- The first place at which a row attains its greatest entry. -/
def IsFirst (v : Fin n → EReal) (j : Fin n) : Prop := v j = Finset.univ.sup v ∧ ∀ i, i < j → v i ≠ Finset.univ.sup v

/-- A row with an entry has such a place. -/
theorem exists_first (hn : 0 < n) (v : Fin n → EReal) : ∃ j, IsFirst v j := by
  have hne : (Finset.univ.filter fun j => v j = Finset.univ.sup v).Nonempty := by
    obtain ⟨j, -, hj⟩ := Finset.exists_mem_eq_sup Finset.univ ⟨⟨0, hn⟩, Finset.mem_univ _⟩ v
    exact ⟨j, Finset.mem_filter.mpr ⟨Finset.mem_univ _, hj.symm⟩⟩
  refine ⟨(Finset.univ.filter fun j => v j = Finset.univ.sup v).min' hne, (Finset.mem_filter.mp (Finset.min'_mem _ hne)).2, fun i hi he => ?_⟩
  exact absurd (Finset.min'_le _ i (Finset.mem_filter.mpr ⟨Finset.mem_univ _, he⟩)) (not_le.mpr hi)

/-- Where a row counts: label zero, distance positive. -/
def Counts (l : Fin n → BitVec 32) (d : Fin n → EReal) (j : Fin n) : Prop := l j = 0#32 ∧ 0 < d j

open Classical in
/-- A row of distances with a low filler where it does not count. -/
def kept (lo : EReal) (l : Fin n → BitVec 32) (d : Fin n → EReal) : Fin n → EReal := fun j => if Counts l d j then d j else lo

open Classical in
/-- How many places count, up to `j`. -/
def countTo (l : Fin n → BitVec 32) (d : Fin n → EReal) (j : Fin n) : ℕ := (Finset.univ.filter fun i => Counts l d i ∧ i ≤ j).card

open Classical in
/-- They are at most all. -/
theorem countTo_le (l : Fin n → BitVec 32) (d : Fin n → EReal) (j : Fin n) : countTo l d j ≤ n := by
  unfold countTo
  exact (Finset.card_filter_le _ _).trans (by simp)

open Classical in
/-- The counted places up to `j`, counted as words. -/
theorem fold_count (l : Fin 2048 → BitVec 32) (d : Fin 2048 → EReal) (j : Fin 2048) (mk : Fin 2048 → BitVec 1)
    (hmk : ∀ i, mk i = if Counts l d i then 1#1 else 0#1) :
    Finset.univ.fold IntOp.addi 0#32 (fun i : Fin 2048 => BitVec.setWidth 32
      (IntOp.andi (mk i) (IntOp.cmpi .sle (BitVec.ofNat 32 i.val) (BitVec.ofNat 32 j.val)))) = BitVec.ofNat 32 (countTo l d j) := by
  rw [IndicatorCount.fold_addi_setWidth_eq_card (fun i : Fin 2048 => IntOp.andi (mk i) (IntOp.cmpi .sle (BitVec.ofNat 32 i.val) (BitVec.ofNat 32 j.val)))]
  unfold countTo
  congr 2
  refine Finset.filter_congr fun i _ => ?_
  rw [hmk, sle_ofNat _ _ (i.isLt.trans (by decide)) (j.isLt.trans (by decide))]
  by_cases h : Counts l d i <;> by_cases h2 : i ≤ j
  · have : i.val ≤ j.val := h2
    simp [h, h2, this, IntOp.andi]
  · have : ¬ i.val ≤ j.val := h2
    simp [h, h2, this, IntOp.andi]
  · have : i.val ≤ j.val := h2
    simp [h, h2, this, IntOp.andi]
  · have : ¬ i.val ≤ j.val := h2
    simp [h, h2, this, IntOp.andi]

/-- The signed minimum of words, read as integers. -/
theorem toInt_minsi (a b : BitVec 32) : (IntOp.minsi a b).toInt = min a.toInt b.toInt := by
  unfold IntOp.minsi
  by_cases h : a.slt b
  · rw [if_pos h, min_eq_left (le_of_lt (by simpa [BitVec.slt] using h))]
  · rw [if_neg h, min_eq_right (by simpa [BitVec.slt] using h)]

/-- The least, in the signed order, of the places where a row attains its greatest entry (2048 elsewhere) is the first
    such place. -/
theorem fold_first (v : Fin 2048 → EReal) (j : Fin 2048) (hj : IsFirst v j) :
    Finset.univ.fold IntOp.minsi 2147483647#32 (fun i : Fin 2048 => if v i = Finset.univ.sup v then BitVec.ofNat 32 i.val else 2048#32)
      = BitVec.ofNat 32 j.val := by
  have hn : ∀ k : ℕ, k ≤ 2048 → (BitVec.ofNat 32 k).toInt = (k : ℤ) := by
    intro k hk
    rw [BitVec.toInt_eq_toNat_cond, BitVec.toNat_ofNat, Nat.mod_eq_of_lt (by omega), if_pos (by omega)]
  have key : ∀ S : Finset (Fin 2048), (S.fold IntOp.minsi 2147483647#32
      (fun i : Fin 2048 => if v i = Finset.univ.sup v then BitVec.ofNat 32 i.val else 2048#32)).toInt
        = S.fold min (2147483647 : ℤ) (fun i => if v i = Finset.univ.sup v then (i.val : ℤ) else 2048) := by
    intro S
    induction S using Finset.induction_on with
    | empty => rfl
    | insert a S ha ih =>
      rw [Finset.fold_insert ha, Finset.fold_insert ha, toInt_minsi, ih]
      congr 1
      split
      · exact hn _ a.isLt.le
      · rfl
  apply BitVec.eq_of_toInt_eq
  rw [key, hn _ j.isLt.le]
  apply le_antisymm
  · rw [Finset.fold_min_le]
    exact Or.inr ⟨j, Finset.mem_univ _, by rw [if_pos hj.1]⟩
  · rw [Finset.le_fold_min]
    refine ⟨by have := j.isLt; omega, fun i _ => ?_⟩
    split
    · rename_i h
      have : ¬ i < j := fun hlt => hj.2 i hlt h
      have : j ≤ i := not_lt.mp this
      exact_mod_cast this
    · have := j.isLt; omega

/-- The word both programs index by: a count less one, counted from the end of 2048 when negative. -/
def backWord (c : BitVec 32) : BitVec 32 :=
  Scalar.select (IntOp.cmpi .slt (IntOp.subi c 1#32) 0#32) (IntOp.addi (IntOp.subi c 1#32) 2048#32) (IntOp.subi c 1#32)

/-- The place that word names. -/
def backPlace (c : ℕ) : Fin 2048 := ⟨if c = 0 then 2047 else (c - 1) % 2048, by split <;> omega⟩

/-- The word of a count is the word of its place. -/
theorem backWord_ofNat (c : ℕ) (hc : c ≤ 2048) : backWord (BitVec.ofNat 32 c) = BitVec.ofNat 32 (backPlace c).val := by
  unfold backWord backPlace
  rcases Nat.eq_zero_or_pos c with rfl | h
  · decide
  · have e : IntOp.subi (BitVec.ofNat 32 c) 1#32 = BitVec.ofNat 32 (c - 1) := by
      apply BitVec.eq_of_toNat_eq
      simp only [IntOp.subi, BitVec.toNat_sub, BitVec.toNat_ofNat]
      omega
    have hs : IntOp.cmpi .slt (BitVec.ofNat 32 (c - 1)) 0#32 = 0#1 := by
      have : ¬ (BitVec.ofNat 32 (c - 1)).slt 0#32 := by
        simp only [BitVec.slt, BitVec.toInt_eq_toNat_cond, BitVec.toNat_ofNat]
        simp
        omega
      simp [IntOp.cmpi, this]
    have hv : (if c = 0 then 2047 else (c - 1) % 2048) = c - 1 := by
      rw [if_neg (by omega), Nat.mod_eq_of_lt (by omega)]
    rw [e, hs]
    show BitVec.ofNat 32 (c - 1) = BitVec.ofNat 32 (if c = 0 then 2047 else (c - 1) % 2048)
    rw [hv]

end Cert.Proof

end
-- ==== Proof.Rounds.lean ====
/-
  The kernel's way of taking the `k` smallest entries of a row, set beside a sorted row.

  A row of reals is held below a filler `B`. One round takes the row's least value `μ` with its multiplicity, adds
  `take · exp |p - μ|` to a running sum that is kept scaled by the exponential of a running maximum, and writes the filler
  over every entry equal to `μ`. After at least `k` rounds the running maximum plus the logarithm of the running sum is
  `log (∑ exp |p - v|)` over the `k` smallest entries `v` of the row, counted with multiplicity (`rounds_value`).
-/
module

public import Idealize.ShloMosaic.PureOps.Ideal

@[expose] public section

noncomputable section

namespace Cert.Proof

open Idealize.ShloMosaic

variable {n : ℕ}

/-- What one round reads and rewrites: the row, how many entries are taken so far, the running maximum of the
    exponents, and the running sum of exponentials scaled by it. -/
structure Round (n : ℕ) where
  lv : Fin n → EReal
  sel : EReal
  mx : EReal
  sm : EReal

/-- The least entry of a row. -/
def least (lv : Fin n → EReal) : EReal := Finset.univ.inf lv

/-- How many entries of a row are its least one. -/
def mult (lv : Fin n → EReal) : EReal := ∑ j, if lv j = least lv then (1 : EReal) else 0

/-- The absolute value, as the larger of a number and its negative. -/
def dev (p v : EReal) : EReal := max (p - v) (-(p - v))

/-- One round at penalty `p`, quota `k` and filler `B`. -/
def Round.next (p k B : EReal) (r : Round n) : Round n where
  lv := fun j => if r.lv j = least r.lv then B else r.lv j
  sel := r.sel + min (mult r.lv) (k - r.sel)
  mx := max r.mx (dev p (least r.lv))
  sm := r.sm * Ideal.exp (r.mx - max r.mx (dev p (least r.lv)))
    + min (mult r.lv) (k - r.sel) * Ideal.exp (dev p (least r.lv) - max r.mx (dev p (least r.lv)))

/-- Before the first round: nothing taken. -/
def Round.start (lv : Fin n → EReal) : Round n := ⟨lv, 0, ⊥, 0⟩

/-- A round's outcome: the running maximum plus the logarithm of the running sum. -/
def Round.value (r : Round n) : EReal := r.mx + Ideal.log r.sm

/-- The first `q` positions of a row. -/
def firsts (n q : ℕ) : Finset (Fin n) := Finset.univ.filter fun i => i.val < q

/-- The exponentials of the deviations from `p` of the first `q` entries of a row, summed. -/
def expSum (p : ℝ) (s : Fin n → ℝ) (q : ℕ) : ℝ := ∑ i ∈ firsts n q, Real.exp |p - s i|

theorem expSum_zero (p : ℝ) (s : Fin n → ℝ) : expSum p s 0 = 0 := by
  simp [expSum, firsts]

/-- Over a stretch of equal entries the sum grows by a multiple of one exponential. -/
theorem expSum_add (p : ℝ) (s : Fin n → ℝ) (q t : ℕ) (hqt : q + t ≤ n) (μ : ℝ)
    (h : ∀ i : Fin n, q ≤ i.val → i.val < q + t → s i = μ) :
    expSum p s (q + t) = expSum p s q + t * Real.exp |p - μ| := by
  induction t with
  | zero => simp
  | succ t ih =>
    have hq : q + t < n := by omega
    have hset : firsts n (q + (t + 1)) = insert ⟨q + t, hq⟩ (firsts n (q + t)) := by
      ext i
      simp only [firsts, Finset.mem_filter, Finset.mem_univ, true_and, Finset.mem_insert, Fin.ext_iff]
      omega
    have hnot : (⟨q + t, hq⟩ : Fin n) ∉ firsts n (q + t) := by simp [firsts]
    have ih' := ih (by omega) fun i h1 h2 => h i h1 (by omega)
    unfold expSum at ih' ⊢
    rw [hset, Finset.sum_insert hnot, ih', h ⟨q + t, hq⟩ (by simp) (by simp)]
    push_cast
    ring

theorem dev_coe (p v : ℝ) : dev (p : EReal) (v : EReal) = ((|p - v| : ℝ) : EReal) := by
  unfold dev
  rw [← EReal.coe_sub, ← EReal.coe_neg, abs_eq_max_neg]
  exact (EReal.coe_strictMono.monotone.map_max).symm

/-- A finite sum of reals, read among the extended reals. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- The least entry of a row of reals is attained and is a lower bound. -/
theorem least_coe (hn : 0 < n) (f : Fin n → ℝ) :
    ∃ i, least (fun j => (f j : EReal)) = (f i : EReal) ∧ ∀ j, f i ≤ f j := by
  haveI : Nonempty (Fin n) := ⟨⟨0, hn⟩⟩
  obtain ⟨i, hi⟩ := Finite.exists_min f
  refine ⟨i, le_antisymm (Finset.inf_le (Finset.mem_univ i)) ?_, hi⟩
  exact Finset.le_inf fun j _ => EReal.coe_le_coe_iff.mpr (hi j)

theorem mult_coe (f : Fin n → ℝ) (μ : ℝ) (h : least (fun j => (f j : EReal)) = (μ : EReal)) :
    mult (fun j => (f j : EReal)) = (((Finset.univ.filter fun j => f j = μ).card : ℝ) : EReal) := by
  unfold mult
  rw [h, Finset.card_filter, Nat.cast_sum, coe_sum]
  refine Finset.sum_congr rfl fun j _ => ?_
  by_cases hj : f j = μ
  · rw [if_pos hj, if_pos (congrArg Real.toEReal hj)]
    simp
  · rw [if_neg hj, if_neg fun e => hj (EReal.coe_injective e)]
    simp

/-- The state after some rounds over a row `f`: `q` entries of the sorted row `s` are taken; the running sum is that of
    the first `q`; while entries are still wanted the row is the sorted one, in some order, its first `q` overwritten. -/
structure Taken (p B : ℝ) (k : ℕ) (s : Fin n → ℝ) (σ : Equiv.Perm (Fin n)) (r : ℕ) (st : Round n) (q : ℕ)
    (f : Fin n → ℝ) : Prop where
  le : q ≤ k
  many : min r k ≤ q
  sel : st.sel = ((q : ℝ) : EReal)
  lv : ∀ j, st.lv j = (f j : EReal)
  row : q < k → ∀ i, f (σ i) = if i.val < q then B else s i
  sum : (q = 0 ∧ st.mx = ⊥ ∧ st.sm = 0)
    ∨ ∃ a b : ℝ, st.mx = (a : EReal) ∧ st.sm = (b : EReal) ∧ b * Real.exp a = expSum p s q

/-- What the running maximum and sum become when `t` entries of deviation `α` are added. -/
theorem sum_next {S : ℝ} (mx sm : EReal) (t α : ℝ)
    (h : (S = 0 ∧ mx = ⊥ ∧ sm = 0) ∨ ∃ a b : ℝ, mx = (a : EReal) ∧ sm = (b : EReal) ∧ b * Real.exp a = S) :
    ∃ a b : ℝ, max mx (α : EReal) = (a : EReal)
      ∧ sm * Ideal.exp (mx - max mx (α : EReal)) + (t : EReal) * Ideal.exp ((α : EReal) - max mx (α : EReal)) = (b : EReal)
      ∧ b * Real.exp a = S + t * Real.exp α := by
  rcases h with ⟨hS, hm, hs⟩ | ⟨a, b, hm, hs, hab⟩
  · refine ⟨α, t, ?_, ?_, ?_⟩
    · rw [hm]; exact max_eq_right bot_le
    · rw [hm, hs, max_eq_right bot_le, zero_mul, zero_add, ← EReal.coe_sub, sub_self, Ideal.exp_coe, Real.exp_zero,
        ← EReal.coe_mul, mul_one]
    · rw [hS, zero_add]
  · have hmax : max (a : EReal) (α : EReal) = ((max a α : ℝ) : EReal) := (EReal.coe_strictMono.monotone.map_max).symm
    refine ⟨max a α, b * Real.exp (a - max a α) + t * Real.exp (α - max a α), ?_, ?_, ?_⟩
    · rw [hm, hmax]
    · rw [hm, hs, hmax, ← EReal.coe_sub, ← EReal.coe_sub, Ideal.exp_coe, Ideal.exp_coe, ← EReal.coe_mul, ← EReal.coe_mul,
        ← EReal.coe_add]
    · rw [add_mul, mul_assoc, mul_assoc, ← Real.exp_add, ← Real.exp_add, sub_add_cancel, sub_add_cancel, hab]

theorem coe_min_nat (a b : ℕ) : min ((a : ℝ) : EReal) ((b : ℝ) : EReal) = (((min a b : ℕ) : ℝ) : EReal) := by
  rw [Nat.cast_min]
  exact (EReal.coe_strictMono.monotone.map_min).symm

/-- One more round. -/
theorem Taken.next {p B : ℝ} {k : ℕ} {s : Fin n → ℝ} {σ : Equiv.Perm (Fin n)} {r : ℕ} {st : Round n} {q : ℕ}
    {f : Fin n → ℝ} (h : Taken p B k s σ r st q f) (hk : 0 < k) (hkn : k ≤ n) (hs : Monotone s) (hB : ∀ i, s i ≤ B) :
    ∃ q' f', Taken p B k s σ (r + 1) (st.next (p : EReal) ((k : ℝ) : EReal) (B : EReal)) q' f' := by
  have hn : 0 < n := by omega
  obtain ⟨i₀, hleast, hmin⟩ := least_coe hn f
  have hlv : st.lv = fun j => (f j : EReal) := funext h.lv
  set μ := f i₀ with hμ
  set c := (Finset.univ.filter fun j => f j = μ).card with hc
  have hmult : mult (fun j => (f j : EReal)) = ((c : ℝ) : EReal) := mult_coe f μ hleast
  have hc1 : 0 < c := Finset.card_pos.mpr ⟨i₀, by simp [hμ]⟩
  set t := min c (k - q) with ht
  have hsub : ((k : ℝ) : EReal) - ((q : ℝ) : EReal) = (((k - q : ℕ) : ℝ) : EReal) := by
    rw [Nat.cast_sub h.le, EReal.coe_sub]
  have htake : min (mult st.lv) (((k : ℝ) : EReal) - st.sel) = ((t : ℝ) : EReal) := by
    rw [hlv, hmult, h.sel, hsub, coe_min_nat]
  have hdev : dev (p : EReal) (least st.lv) = ((|p - μ| : ℝ) : EReal) := by rw [hlv, hleast, dev_coe]
  -- the entries taken in this round are all `μ`
  have hcount : c = (Finset.univ.filter fun i => f (σ i) = μ).card := by
    rw [hc]
    refine (Finset.card_bij (fun i _ => σ i) ?_ ?_ ?_).symm
    · intro i hi; simpa using hi
    · intro i _ j _ e; exact σ.injective e
    · intro j hj; exact ⟨σ.symm j, by simpa using hj, by simp⟩
  have hq_lt : q < k → ∀ hq : q < n, s ⟨q, hq⟩ = μ := by
    intro hqk hq
    have hrow := h.row hqk
    have h1 : μ ≤ s ⟨q, hq⟩ := by
      have := hmin (σ ⟨q, hq⟩)
      rw [hrow] at this
      simpa using this
    refine le_antisymm ?_ h1
    have h2 := hrow (σ.symm i₀)
    rw [Equiv.apply_symm_apply] at h2
    by_cases h3 : (σ.symm i₀).val < q
    · rw [if_pos h3] at h2
      rw [hμ, h2]; exact hB _
    · rw [if_neg h3] at h2
      rw [hμ, h2]; exact hs (Fin.mk_le_of_le_val (by omega))
  have hstretch : ∀ i : Fin n, q ≤ i.val → i.val < q + t → s i = μ := by
    intro i h1 h2
    have htq : 0 < t := by omega
    have hqk : q < k := by omega
    have hq : q < n := by omega
    have hsq := hq_lt hqk hq
    have hge : μ ≤ s i := by rw [← hsq]; exact hs (Fin.mk_le_of_le_val h1)
    by_contra hne
    have hgt : μ < s i := lt_of_le_of_ne hge (Ne.symm hne)
    have hμB : μ < B := lt_of_lt_of_le hgt (hB i)
    have hsubset : (Finset.univ.filter fun j => f (σ j) = μ) ⊆ Finset.Ico (⟨q, hq⟩ : Fin n) i := by
      intro j hj
      have hj' : f (σ j) = μ := by simpa using hj
      rw [h.row hqk j] at hj'
      by_cases h3 : j.val < q
      · rw [if_pos h3] at hj'; exact absurd hj' (ne_of_gt hμB)
      · rw [if_neg h3] at hj'
        rw [Finset.mem_Ico]
        refine ⟨Fin.mk_le_of_le_val (by omega), ?_⟩
        by_contra h4
        have := hs (not_lt.mp h4)
        rw [hj'] at this
        exact absurd this (not_le.mpr hgt)
    have hcard := Finset.card_le_card hsubset
    rw [← hcount, Fin.card_Ico] at hcard
    simp only at hcard
    omega
  have hkt : q + t ≤ k := by have := h.le; omega
  refine ⟨q + t, fun j => if f j = μ then B else f j, ?_, ?_, ?_, ?_, ?_, ?_⟩
  · exact hkt
  · have := h.many; have := h.le; omega
  · show st.sel + min (mult st.lv) (((k : ℝ) : EReal) - st.sel) = _
    rw [htake, h.sel, ← EReal.coe_add]; push_cast; rfl
  · intro j
    show (if st.lv j = least st.lv then (B : EReal) else st.lv j) = _
    rw [hlv, hleast]
    by_cases hj : f j = μ
    · simp [hj]
    · have : ¬ ((f j : EReal) = (μ : EReal)) := by exact_mod_cast hj
      simp [hj, this]
  · intro hlt i
    have hqk : q < k := by omega
    have hq : q < n := by omega
    have htc : t = c := by omega
    have hrow := h.row hqk
    have hsq := hq_lt hqk hq
    have hμB : μ < B := by
      refine lt_of_le_of_ne (hsq ▸ hB _) fun hEq => ?_
      have hall : (Finset.univ.filter fun j => f (σ j) = μ) = Finset.univ := by
        refine Finset.filter_true_of_mem fun j _ => ?_
        rw [hrow j]
        by_cases h3 : j.val < q
        · rw [if_pos h3, hEq]
        · rw [if_neg h3]
          refine le_antisymm (hEq ▸ hB j) ?_
          rw [← hsq]; exact hs (Fin.mk_le_of_le_val (by omega))
      rw [hall, Finset.card_univ, Fintype.card_fin] at hcount
      omega
    show (if f (σ i) = μ then B else f (σ i)) = _
    rw [hrow i]
    by_cases h3 : i.val < q
    · rw [if_pos h3, if_neg (ne_of_gt hμB), if_pos (by omega)]
    · rw [if_neg h3]
      by_cases h4 : i.val < q + t
      · rw [if_pos h4, if_pos (hstretch i (by omega) h4)]
      · rw [if_neg h4, if_neg]
        intro h5
        have hsubset : Finset.Icc (⟨q, hq⟩ : Fin n) i ⊆ Finset.univ.filter fun j => f (σ j) = μ := by
          intro j hj
          rw [Finset.mem_Icc] at hj
          have hj1 : ¬ j.val < q := by have := Fin.le_def.mp hj.1; simp only at this; omega
          rw [Finset.mem_filter]
          refine ⟨Finset.mem_univ _, ?_⟩
          rw [hrow j, if_neg hj1]
          refine le_antisymm (h5 ▸ hs hj.2) ?_
          rw [← hsq]; exact hs hj.1
        have hcard := Finset.card_le_card hsubset
        rw [← hcount, Fin.card_Icc] at hcard
        simp only at hcard
        omega
  · right
    show ∃ a b : ℝ, max st.mx (dev (p : EReal) (least st.lv)) = _ ∧ st.sm * Ideal.exp (st.mx - max st.mx (dev (p : EReal) (least st.lv)))
      + min (mult st.lv) (((k : ℝ) : EReal) - st.sel) * Ideal.exp (dev (p : EReal) (least st.lv) - max st.mx (dev (p : EReal) (least st.lv))) = _ ∧ _
    rw [htake, hdev, expSum_add p s q t (by omega) μ hstretch]
    refine sum_next st.mx st.sm t |p - μ| ?_
    rcases h.sum with ⟨h0, h1, h2⟩ | h
    · exact .inl ⟨by rw [h0, expSum_zero], h1, h2⟩
    · exact .inr h

/-- `r` rounds. -/
theorem taken_iterate {p B : ℝ} {k : ℕ} {f : Fin n → ℝ} {σ : Equiv.Perm (Fin n)} (hk : 0 < k) (hkn : k ≤ n)
    (hs : Monotone fun i => f (σ i)) (hB : ∀ i, f i ≤ B) (r : ℕ) :
    ∃ q g, Taken p B k (fun i => f (σ i)) σ r
      ((Round.next (p : EReal) ((k : ℝ) : EReal) (B : EReal))^[r] (Round.start fun j => (f j : EReal))) q g := by
  induction r with
  | zero =>
    refine ⟨0, f, by omega, by omega, ?_, fun j => rfl, ?_, ?_⟩
    · show (0 : EReal) = _; simp
    · intro _ i; simp
    · exact .inl ⟨rfl, rfl, rfl⟩
  | succ r ih =>
    obtain ⟨q, g, hqg⟩ := ih
    rw [Function.iterate_succ_apply']
    exact hqg.next hk hkn hs fun i => hB _

/-- After `k` rounds the outcome is the logarithm of the sum of exponentials over the `k` smallest entries. -/
theorem rounds_value {p B : ℝ} {k : ℕ} {f : Fin n → ℝ} {σ : Equiv.Perm (Fin n)} (hk : 0 < k) (hkn : k ≤ n)
    (hs : Monotone fun i => f (σ i)) (hB : ∀ i, f i ≤ B) :
    ((Round.next (p : EReal) ((k : ℝ) : EReal) (B : EReal))^[k] (Round.start fun j => (f j : EReal))).value
      = ((Real.log (expSum p (fun i => f (σ i)) k) : ℝ) : EReal) := by
  obtain ⟨q, g, h⟩ := taken_iterate (p := p) hk hkn hs hB k
  have hq : q = k := by have := h.le; have := h.many; omega
  subst hq
  rcases h.sum with ⟨h0, -, -⟩ | ⟨a, b, h1, h2, h3⟩
  · omega
  · have hpos : 0 < expSum p (fun i => f (σ i)) q := by
      unfold expSum
      refine Finset.sum_pos (fun i _ => Real.exp_pos _) ⟨⟨0, by omega⟩, by simp [firsts, hk]⟩
    have hb : 0 < b := by
      by_contra hb
      have := mul_nonpos_of_nonpos_of_nonneg (not_lt.mp hb) (Real.exp_pos a).le
      rw [h3] at this
      exact absurd hpos (not_lt.mpr this)
    unfold Round.value
    rw [h1, h2, Ideal.log_coe, if_neg (not_le.mpr hb), ← EReal.coe_add, ← h3, Real.log_mul hb.ne' (Real.exp_pos a).ne',
      Real.log_exp, add_comm]

/-- The shifted form of the same logarithm: the largest exponent plus the logarithm of the sum of the shifted exponentials. -/
theorem shifted_log {k : ℕ} (hk : 0 < k) (a : Fin k → ℝ) :
    (Finset.univ.sup fun r => (a r : EReal))
        + Ideal.log (∑ r, Ideal.exp ((a r : EReal) - Finset.univ.sup fun r => (a r : EReal)))
      = ((Real.log (∑ r, Real.exp (a r)) : ℝ) : EReal) := by
  haveI : Nonempty (Fin k) := ⟨⟨0, hk⟩⟩
  obtain ⟨i, hi⟩ := Finite.exists_max a
  have hsup : (Finset.univ.sup fun r => (a r : EReal)) = (a i : EReal) :=
    le_antisymm (Finset.sup_le fun j _ => EReal.coe_le_coe_iff.mpr (hi j)) (Finset.le_sup (f := fun r => (a r : EReal)) (Finset.mem_univ i))
  rw [hsup]
  have hsum : (∑ r, Ideal.exp ((a r : EReal) - (a i : EReal))) = ((∑ r, Real.exp (a r - a i) : ℝ) : EReal) := by
    rw [coe_sum]
    refine Finset.sum_congr rfl fun r _ => ?_
    rw [← EReal.coe_sub, Ideal.exp_coe]
  have hpos : 0 < ∑ r, Real.exp (a r - a i) := Finset.sum_pos (fun r _ => Real.exp_pos _) Finset.univ_nonempty
  rw [hsum, Ideal.log_coe, if_neg (not_le.mpr hpos), ← EReal.coe_add]
  have : ∑ r, Real.exp (a r) = Real.exp (a i) * ∑ r, Real.exp (a r - a i) := by
    rw [Finset.mul_sum]
    refine Finset.sum_congr rfl fun r _ => ?_
    rw [← Real.exp_add]; congr 1; ring
  rw [this, Real.log_mul (Real.exp_pos _).ne' hpos.ne', Real.log_exp]

/-- The sum over the first `k` positions is the sum over `k` indices. -/
theorem expSum_eq_sum {k : ℕ} (hkn : k ≤ n) (p : ℝ) (s : Fin n → ℝ) :
    expSum p s k = ∑ r : Fin k, Real.exp |p - s (Fin.castLE hkn r)| := by
  unfold expSum
  refine (Finset.sum_bij (fun r _ => Fin.castLE hkn r) ?_ ?_ ?_ ?_).symm
  · intro r _; simp [firsts]
  · intro a _ b _ e; exact Fin.castLE_injective hkn e
  · intro i hi
    have : i.val < k := by simpa [firsts] using hi
    exact ⟨⟨i.val, this⟩, Finset.mem_univ _, rfl⟩
  · intro r _; rfl

end Cert.Proof

end
-- ==== Proof.VecRounds.lean ====
/-
  The rounds as the kernel runs them: on 256 rows at once, each row a line of a 256 × 2048 vector. One vector round, read at
  a row, is one round of that row (`Proof/Rounds.lean`), and the kernel's printed values are four vector rounds followed by
  three.
-/
module

public import proofs.«01_k».proof.Proof.Gen.KernelIdeal.Skeleton
public import proofs.«01_k».proof.Proof.Rounds
public import proofs.«01_k».proof.Proof.Rows
public import Idealize.ShloMosaic.Lib.Pointwise
public import Idealize.ShloMosaic.Lib.IdealHost

@[expose] public section

set_option maxRecDepth 16384

noncomputable section

namespace Cert.Proof.Ker

open Cert.KernelIdeal Cert.KernelIdeal.Gen
open Idealize.ShloMosaic

/-- The state of the rounds on 256 rows. -/
structure VecRound where
  lv : FVec Ideal S256x2048 .f32
  sel : FVec Ideal S256 .f32
  mx : FVec Ideal S256 .f32
  sm : FVec Ideal S256 .f32

/-- The least entry of every row. -/
def vmin (lv : FVec Ideal S256x2048 .f32) : FVec Ideal S256 .f32 :=
  multiReduction .minimumf [1] S256 lv 0x7F800000#32 reduces_S256x2048_S256 (.inl rfl) rfl

/-- Where a row holds its least entry. -/
def veq (lv : FVec Ideal S256x2048 .f32) : IVec S256x2048 1 :=
  cmpf .oeq lv (broadcastTo S256x2048 (shapeCast S256x1 (vmin lv) shapeCasts_S256_S256x1) broadcasts_S256x1_S256x2048)

/-- How often a row holds its least entry. -/
def vcnt (lv : FVec Ideal S256x2048 .f32) : FVec Ideal S256 .f32 :=
  multiReduction .add [1] S256 (sitofp .f32 (extui 32 (veq lv) natLt_1_32)) 0x00000000#32 reduces_S256x2048_S256 (.inl rfl) rfl

/-- How many of them a round takes. -/
def vtake (k : BitVec 32) (S : VecRound) : FVec Ideal S256 .f32 :=
  minimumf (vcnt S.lv) (subf (broadcast S256 (Scalar.ofBits .f32 k : Ideal .f32)) S.sel)

/-- The exponent of every row's least entry. -/
def vdev (p : BitVec 32) (S : VecRound) : FVec Ideal S256 .f32 :=
  absf (subf (broadcast S256 (Scalar.ofBits .f32 p : Ideal .f32)) (vmin S.lv))

/-- One round on all rows, at penalty word `p` and quota word `k`. -/
def VecRound.next (p k : BitVec 32) (S : VecRound) : VecRound where
  lv := select (veq S.lv) (broadcast S256x2048 (Scalar.ofBits .f32 0x7149F2CA#32 : Ideal .f32)) S.lv
  sel := addf S.sel (vtake k S)
  mx := maximumf S.mx (vdev p S)
  sm := addf (mulf S.sm (exp (subf S.mx (maximumf S.mx (vdev p S)))))
    (mulf (vtake k S) (exp (subf (vdev p S) (maximumf S.mx (vdev p S)))))

/-- Before the first round. -/
def VecRound.start (lv : FVec Ideal S256x2048 .f32) : VecRound :=
  ⟨lv, broadcast S256 (Scalar.ofBits .f32 0x00000000#32 : Ideal .f32), broadcast S256 (Scalar.ofBits .f32 0xFF800000#32 : Ideal .f32),
    broadcast S256 (Scalar.ofBits .f32 0x00000000#32 : Ideal .f32)⟩

/-- One row of the state. -/
def VecRound.row (S : VecRound) (r : Fin 256) : Round 2048 :=
  ⟨fun j => S.lv (ix2 r j), S.sel (ix1 r), S.mx (ix1 r), S.sm (ix1 r)⟩

/-- The word of plus infinity. -/
theorem ofBits_top : Ideal.ofBits .f32 0x7F800000#32 = ⊤ := by simp [Ideal.ofBits, Ideal.ieee]

/-- The word of minus infinity. -/
theorem ofBits_bot : Ideal.ofBits .f32 0xFF800000#32 = ⊥ := by simp [Ideal.ofBits, Ideal.ieee]

/-- The row minimum, read at a row. -/
theorem vmin_apply (lv : FVec Ideal S256x2048 .f32) (r : Fin 256) : vmin lv (ix1 r) = least fun j => lv (ix2 r j) := by
  pointwise [vmin]
  rw [show Ideal.ofBits FTy.f32 2139095040#32 = ⊤ from ofBits_top]
  rfl

/-- The equality mask, read at an entry. -/
theorem veq_apply (lv : FVec Ideal S256x2048 .f32) (r : Fin 256) (j : Fin 2048) :
    veq lv (ix2 r j) = if lv (ix2 r j) = least (fun j => lv (ix2 r j)) then 1#1 else 0#1 := by
  rw [← vmin_apply]
  pointwise [veq]
  split <;> simp_all

/-- The multiplicity, read at a row. -/
theorem vcnt_apply (lv : FVec Ideal S256x2048 .f32) (r : Fin 256) : vcnt lv (ix1 r) = mult fun j => lv (ix2 r j) := by
  pointwise [vcnt]
  unfold mult
  refine Finset.sum_congr rfl fun j _ => ?_
  rw [veq_apply]
  split
  · show ((((BitVec.setWidth 32 1#1).toInt : ℝ)) : EReal) = 1
    simp
  · show ((((BitVec.setWidth 32 0#1).toInt : ℝ)) : EReal) = 0
    simp

/-- One vector round, read at a row, is one round of that row. -/
theorem row_next (p k : BitVec 32) (S : VecRound) (r : Fin 256) :
    (S.next p k).row r = (S.row r).next (Ideal.ofBits .f32 p) (Ideal.ofBits .f32 k) (Ideal.ofBits .f32 0x7149F2CA#32) := by
  have hd : vdev p S (ix1 r) = dev (Ideal.ofBits .f32 p) (least fun j => S.lv (ix2 r j)) := by
    rw [← vmin_apply]
    pointwise [vdev]
    rfl
  have ht : vtake k S (ix1 r) = min (mult fun j => S.lv (ix2 r j)) (Ideal.ofBits .f32 k - S.sel (ix1 r)) := by
    rw [← vcnt_apply]
    pointwise [vtake]
  unfold VecRound.row VecRound.next Round.next
  simp only [Round.mk.injEq]
  refine ⟨funext fun j => ?_, ?_, ?_, ?_⟩
  · show (if veq S.lv (ix2 r j) = 1#1 then _ else _) = _
    rw [veq_apply]
    by_cases h : S.lv (ix2 r j) = least (fun j => S.lv (ix2 r j))
    · rw [if_pos h, if_pos rfl, if_pos h]; rfl
    · rw [if_neg h, if_neg (by decide), if_neg h]
  · rw [← ht]; rfl
  · rw [← hd]; rfl
  · rw [← hd, ← ht]; rfl

/-- The state before the first round, read at a row. -/
theorem row_start (lv : FVec Ideal S256x2048 .f32) (r : Fin 256) : (VecRound.start lv).row r = Round.start fun j => lv (ix2 r j) := by
  unfold VecRound.row VecRound.start Round.start
  simp only [Round.mk.injEq]
  exact ⟨trivial, Ideal.ofBits_zero_f32, ofBits_bot, Ideal.ofBits_zero_f32⟩

/-- Any number of vector rounds, read at a row. -/
theorem row_iterate (p k : BitVec 32) (q : ℕ) (S : VecRound) (r : Fin 256) :
    ((VecRound.next p k)^[q] S).row r
      = (Round.next (Ideal.ofBits .f32 p) (Ideal.ofBits .f32 k) (Ideal.ofBits .f32 0x7149F2CA#32))^[q] (S.row r) := by
  induction q with
  | zero => rfl
  | succ q ih => rw [Function.iterate_succ_apply', Function.iterate_succ_apply', row_next, ih]

/-- The four rounds at penalty 1. -/
def vecOne (v3 : IVec S256x2048 32) (v21 : FVec Ideal S256x2048 .f32) : VecRound :=
  (VecRound.next 0x3F800000#32 0x40800000#32)^[4] (VecRound.start (k0_pay12 v3 v21))

/-- The three rounds at penalty 2. -/
def vecTwo (v3 : IVec S256x2048 32) (v21 : FVec Ideal S256x2048 .f32) : VecRound :=
  (VecRound.next 0x40000000#32 0x40400000#32)^[3] (VecRound.start (k0_pay41 v3 v21))

/-- The first of the four rounds, in the kernel's printed values. -/
theorem one_first (v3 : IVec S256x2048 32) (v21 : FVec Ideal S256x2048 .f32) :
    VecRound.next 0x3F800000#32 0x40800000#32 (VecRound.start (k0_pay12 v3 v21))
      = ⟨k0_pay22 v3 v21, k0_pay21 v3 v21, k0_pay19 v3 v21, k0_pay20 v3 v21⟩ := rfl

/-- The second and third of them. -/
theorem one_mid (v71 v78 v79 : FVec Ideal S256 .f32) (v81 : FVec Ideal S256x2048 .f32) :
    VecRound.next 0x3F800000#32 0x40800000#32 (VecRound.next 0x3F800000#32 0x40800000#32 ⟨v81, v79, v71, v78⟩)
      = ⟨k0_pay37 v81 (vmin v81), k0_pay36 v79 v81 (vmin v81), k0_pay34 v71 v81 (vmin v81), k0_pay35 v71 v78 v79 v81 (vmin v81)⟩ := rfl

/-- The fourth, with its outcome added on. -/
theorem one_last (v50 v119 v126 v127 : FVec Ideal S256 .f32) (v129 : FVec Ideal S256x2048 .f32) :
    k0_pay40 v50 v119 v126 v127 v129 (vmin v129) (broadcastTo S256x2048 (shapeCast S256x1 (vmin v129) shapeCasts_S256_S256x1) broadcasts_S256x1_S256x2048)
      = addf (addf v50 (VecRound.next 0x3F800000#32 0x40800000#32 ⟨v129, v127, v119, v126⟩).mx)
          (log (VecRound.next 0x3F800000#32 0x40800000#32 ⟨v129, v127, v119, v126⟩).sm) := rfl

/-- The first of the three rounds. -/
theorem two_first (v3 : IVec S256x2048 32) (v21 : FVec Ideal S256x2048 .f32) :
    VecRound.next 0x40000000#32 0x40400000#32 (VecRound.start (k0_pay41 v3 v21))
      = ⟨k0_pay51 (k0_pay41 v3 v21) (k0_pay45 v3 v21), addf k0_pay42 (k0_pay46 v3 v21), k0_pay48 v3 v21, addf (k0_pay49 v3 v21) (k0_pay50 v3 v21)⟩ := rfl

/-- The running sum after the other two. -/
theorem two_sum (v157 : FVec Ideal S256x2048 .f32) (v164 : IVec S256x2048 1) (v158 v170 v174 v177 v180 : FVec Ideal S256 .f32) :
    (VecRound.next 0x40000000#32 0x40400000#32 (VecRound.next 0x40000000#32 0x40400000#32 ⟨k0_pay51 v157 v164, addf v158 v170, v174, addf v177 v180⟩)).sm
      = k0_pay60 v157 v158 v164 v170 v174 v177 v180 := rfl

/-- The running maximum after the other two. -/
theorem two_max (v157 : FVec Ideal S256x2048 .f32) (v164 : IVec S256x2048 1) (v158 v170 v174 v177 v180 : FVec Ideal S256 .f32) :
    (VecRound.next 0x40000000#32 0x40400000#32 (VecRound.next 0x40000000#32 0x40400000#32 ⟨k0_pay51 v157 v164, addf v158 v170, v174, addf v177 v180⟩)).mx
      = k0_pay59 v157 v164 v174 := rfl

/-- What the statistics kernel stores for the losses, from the label block and the distances. -/
def lossPay (v3 : IVec S256x2048 32) (v21 : FVec Ideal S256x2048 .f32) : FVec Ideal S1x1x256 .f32 :=
  k0_pay3
    (k0_pay60 (k0_pay41 v3 v21) k0_pay42 (k0_pay45 v3 v21) (k0_pay46 v3 v21) (k0_pay48 v3 v21) (k0_pay49 v3 v21) (k0_pay50 v3 v21))
    (k0_pay61
      (k0_pay40 k0_pay11
        (k0_pay34 (k0_pay19 v3 v21) (k0_pay22 v3 v21) (k0_pay23 v3 v21))
        (k0_pay35 (k0_pay19 v3 v21) (k0_pay20 v3 v21) (k0_pay21 v3 v21) (k0_pay22 v3 v21) (k0_pay23 v3 v21))
        (k0_pay36 (k0_pay21 v3 v21) (k0_pay22 v3 v21) (k0_pay23 v3 v21))
        (k0_pay37 (k0_pay22 v3 v21) (k0_pay23 v3 v21))
        (k0_pay38 (k0_pay22 v3 v21) (k0_pay23 v3 v21))
        (k0_pay39 (k0_pay22 v3 v21) (k0_pay23 v3 v21)))
      (k0_pay41 v3 v21) (k0_pay45 v3 v21) (k0_pay48 v3 v21))

/-- It is the outcome of the four rounds and of the three, added up. -/
theorem lossPay_eq (v3 : IVec S256x2048 32) (v21 : FVec Ideal S256x2048 .f32) :
    lossPay v3 v21 = shapeCast S1x1x256
      (addf (addf (addf (addf k0_pay11 (vecOne v3 v21).mx) (log (vecOne v3 v21).sm)) (vecTwo v3 v21).mx) (log (vecTwo v3 v21).sm))
      shapeCasts_S256_S1x1x256 := by
  have h4 : vecOne v3 v21 = VecRound.next 0x3F800000#32 0x40800000#32
      ⟨k0_pay37 (k0_pay22 v3 v21) (vmin (k0_pay22 v3 v21)), k0_pay36 (k0_pay21 v3 v21) (k0_pay22 v3 v21) (vmin (k0_pay22 v3 v21)),
        k0_pay34 (k0_pay19 v3 v21) (k0_pay22 v3 v21) (vmin (k0_pay22 v3 v21)),
        k0_pay35 (k0_pay19 v3 v21) (k0_pay20 v3 v21) (k0_pay21 v3 v21) (k0_pay22 v3 v21) (vmin (k0_pay22 v3 v21))⟩ := by
    rw [← one_mid, ← one_first]
    rfl
  have h3 : vecTwo v3 v21 = VecRound.next 0x40000000#32 0x40400000#32 (VecRound.next 0x40000000#32 0x40400000#32
      ⟨k0_pay51 (k0_pay41 v3 v21) (k0_pay45 v3 v21), addf k0_pay42 (k0_pay46 v3 v21), k0_pay48 v3 v21, addf (k0_pay49 v3 v21) (k0_pay50 v3 v21)⟩) := by
    rw [← two_first]
    rfl
  have hl := one_last k0_pay11
    (k0_pay34 (k0_pay19 v3 v21) (k0_pay22 v3 v21) (vmin (k0_pay22 v3 v21)))
    (k0_pay35 (k0_pay19 v3 v21) (k0_pay20 v3 v21) (k0_pay21 v3 v21) (k0_pay22 v3 v21) (vmin (k0_pay22 v3 v21)))
    (k0_pay36 (k0_pay21 v3 v21) (k0_pay22 v3 v21) (vmin (k0_pay22 v3 v21)))
    (k0_pay37 (k0_pay22 v3 v21) (vmin (k0_pay22 v3 v21)))
  rw [← h4] at hl
  rw [← hl, h3, two_sum, two_max]
  rfl

/-- The same, read at a row: the two outcomes of the row's rounds, added up. -/
theorem lossPay_apply (v3 : IVec S256x2048 32) (v21 : FVec Ideal S256x2048 .f32) (r : Fin 256) :
    lossPay v3 v21 (ix3 0 0 r)
      = ((Round.next (Ideal.ofBits .f32 0x3F800000#32) (Ideal.ofBits .f32 0x40800000#32) (Ideal.ofBits .f32 0x7149F2CA#32))^[4]
            (Round.start fun j => if v3 (ix2 r j) = 1#32 then v21 (ix2 r j) else Ideal.ofBits .f32 0x7149F2CA#32)).value
        + ((Round.next (Ideal.ofBits .f32 0x40000000#32) (Ideal.ofBits .f32 0x40400000#32) (Ideal.ofBits .f32 0x7149F2CA#32))^[3]
            (Round.start fun j => if v3 (ix2 r j) = 2#32 then v21 (ix2 r j) else Ideal.ofBits .f32 0x7149F2CA#32)).value := by
  have e1 : (fun j => k0_pay12 v3 v21 (ix2 r j)) = fun j => if v3 (ix2 r j) = 1#32 then v21 (ix2 r j) else Ideal.ofBits .f32 0x7149F2CA#32 := by
    funext j
    pointwise [k0_pay12]
    exact select_eq _ _ _ _
  have e2 : (fun j => k0_pay41 v3 v21 (ix2 r j)) = fun j => if v3 (ix2 r j) = 2#32 then v21 (ix2 r j) else Ideal.ofBits .f32 0x7149F2CA#32 := by
    funext j
    pointwise [k0_pay41]
    exact select_eq _ _ _ _
  rw [← e1, ← e2, ← row_start, ← row_start, ← row_iterate, ← row_iterate, lossPay_eq]
  change _ = ((vecOne v3 v21).row r).value + ((vecTwo v3 v21).row r).value
  generalize vecOne v3 v21 = A
  generalize vecTwo v3 v21 = B
  unfold Round.value VecRound.row
  pointwise [k0_pay11]
  exact add_assoc _ _ _

end Cert.Proof.Ker

end
-- ==== Proof.StatRows.lean ====
/-
  The statistics kernel's values for 256 rows, read at a row: distances, where a row counts, its greatest counted entry, and
  the place the gather reads.
-/
module

public import proofs.«01_k».proof.Proof.Gen.KernelIdeal.Skeleton
public import proofs.«01_k».proof.Proof.Rows
public import proofs.«01_k».proof.Proof.VecRounds
public import Idealize.ShloMosaic.Lib.Pointwise
public import Idealize.ShloMosaic.Lib.IdealHost
public import Idealize.ShloMosaic.Lib.IndicatorCount

@[expose] public section

set_option maxRecDepth 16384

noncomputable section

namespace Cert.Proof.Ker

open Cert.KernelIdeal Cert.KernelIdeal.Gen
open Idealize.ShloMosaic

variable (v0 : Vec Ideal S1x2048x32 .f32) (v2 : Vec Ideal S1x256x2048 .i32) (v8 : Vec Ideal S1x256x32 .f32)

/-- The label block without its unit axis. -/
theorem label_apply (r : Fin 256) (j : Fin 2048) : k0_pay4 (F := Ideal) v2 (ix2 r j) = v2 (ix3 0 r j) := by
  pointwise [k0_pay4]

/-- A squared distance: two squared norms less twice the product. -/
theorem dist_apply (r : Fin 256) (j : Fin 2048) : k0_pay5 v0 v8 (ix2 r j)
    = ((∑ c : Fin 32, v8 (ix3 0 r c) * v8 (ix3 0 r c)) + ∑ c : Fin 32, v0 (ix3 0 j c) * v0 (ix3 0 j c))
      - Ideal.ofBits .f32 0x40000000#32 * ∑ c : Fin 32, v8 (ix3 0 r c) * v0 (ix3 0 j c) := by
  pointwise [k0_pay5]

/-- The distances of one row of the block. -/
def drow (r : Fin 256) : Fin 2048 → EReal := fun j => k0_pay5 v0 v8 (ix2 r j)

/-- The labels of one row of the block. -/
def lrow (r : Fin 256) : Fin 2048 → BitVec 32 := fun j => v2 (ix3 0 r j)

open Classical in
/-- Where a row counts. -/
theorem mask_apply (r : Fin 256) (j : Fin 2048) : k0_pay6 v0 v2 v8 (ix2 r j)
    = if Counts (lrow v2 r) (drow v0 v8 r) j then 1#1 else 0#1 := by
  pointwise [k0_pay6]
  rw [label_apply]
  exact @andi_eq _ _ _ _ _ (Classical.propDecidable _)

open Classical in
/-- The row with the low filler. -/
theorem kept_apply (r : Fin 256) (j : Fin 2048) : k0_pay7 v0 v2 v8 (ix2 r j)
    = kept (Ideal.ofBits .f32 0xF149F2CA#32) (lrow v2 r) (drow v0 v8 r) j := by
  pointwise [k0_pay7]
  rw [mask_apply]
  unfold kept
  by_cases h : Counts (lrow v2 r) (drow v0 v8 r) j
  · rw [if_pos h, if_pos h]; rfl
  · rw [if_neg h, if_neg h]; rfl

/-- The greatest counted entry of a row. -/
theorem top_apply (r : Fin 256) : k0_pay8 v0 v2 v8 (ix1 r)
    = Finset.univ.sup (kept (Ideal.ofBits .f32 0xF149F2CA#32) (lrow v2 r) (drow v0 v8 r)) := by
  rw [← funext fun j => kept_apply v0 v2 v8 r j]
  pointwise [k0_pay8]
  rw [show Ideal.ofBits FTy.f32 4286578688#32 = ⊥ from ofBits_bot]
  rfl

/-- Every entry of a row of the broadcast is the first place attaining the greatest entry. -/
theorem place_apply (r : Fin 256) (j i : Fin 2048) (hj : IsFirst (kept (Ideal.ofBits .f32 0xF149F2CA#32) (lrow v2 r) (drow v0 v8 r)) j) :
    k0_pay9 v0 v2 v8 (ix2 r i) = BitVec.ofNat 32 j.val := by
  rw [← fold_first _ j hj]
  pointwise [k0_pay9]
  rw [top_apply]
  simp only [kept_apply]

/-- The place the gather reads, as a word. -/
theorem rank_apply (r : Fin 256) (j : Fin 2048) (hj : IsFirst (kept (Ideal.ofBits .f32 0xF149F2CA#32) (lrow v2 r) (drow v0 v8 r)) j) :
    k0_pay10 (iota .tc S256x2048 32 [1] iota_S256x2048_d1_w32) (k0_pay6 v0 v2 v8) (k0_pay9 v0 v2 v8) (ix1 r)
      = BitVec.ofNat 32 (backPlace (countTo (lrow v2 r) (drow v0 v8 r) j)).val := by
  rw [← backWord_ofNat _ (countTo_le _ _ _)]
  pointwise [k0_pay10]
  rw [funext fun x => congrArg (fun w => BitVec.setWidth 32 (IntOp.andi (k0_pay6 v0 v2 v8 (ix2 r x)) (IntOp.cmpi CmpIPredicate.sle (BitVec.ofNat 32 x.val) w))) (place_apply v0 v2 v8 r j x hj),
    fold_count (lrow v2 r) (drow v0 v8 r) j (fun x => k0_pay6 v0 v2 v8 (ix2 r x)) (mask_apply v0 v2 v8 r)]
  rfl

end Cert.Proof.Ker

end
-- ==== Proof.Spec.lean ====
/-
  The loss both programs compute, row by row: squared distances, the farthest counted column of a row, the row the gather
  names, and the two nearest-distance terms as the kernel's rounds give them.
-/
module

public import proofs.«01_k».proof.Proof.Rows
public import proofs.«01_k».proof.Proof.Rounds

@[expose] public section

noncomputable section

namespace Cert.Proof

open Idealize.ShloMosaic

/-- The points of every batch. -/
abbrev Pts : Type := Fin 8 → Fin 2048 → Fin 32 → EReal

/-- The labels of every batch. -/
abbrev Labs : Type := Fin 8 → Fin 2048 → Fin 2048 → BitVec 32

/-- The filler for columns out of play when a maximum is sought. -/
abbrev lo : EReal := Ideal.ofBits .f32 0xF149F2CA#32

/-- The filler for columns out of play when a minimum is sought. -/
abbrev hi : EReal := Ideal.ofBits .f32 0x7149F2CA#32

variable (X : Pts) (T : Labs)

/-- Squared distances from row `i` of batch `b`. -/
def dline (b : Fin 8) (i : Fin 2048) : Fin 2048 → EReal := fun j =>
  ((∑ c, X b i c * X b i c) + ∑ c, X b j c * X b j c) - Ideal.ofBits .f32 0x40000000#32 * ∑ c, X b i c * X b j c

/-- The counted distances of a row, the low filler elsewhere. -/
def keptLine (b : Fin 8) (i : Fin 2048) : Fin 2048 → EReal := kept lo (T b i) (dline X b i)

/-- The farthest counted distance of a row. -/
def top (b : Fin 8) (i : Fin 2048) : EReal := Finset.univ.sup (keptLine X T b i)

/-- Its first column. -/
def first (b : Fin 8) (i : Fin 2048) : Fin 2048 := (exists_first (by decide) (keptLine X T b i)).choose

/-- It is the first. -/
theorem first_spec (b : Fin 8) (i : Fin 2048) : IsFirst (keptLine X T b i) (first X T b i) :=
  (exists_first (by decide) (keptLine X T b i)).choose_spec

/-- The row the gather names. -/
def place (b : Fin 8) (i : Fin 2048) : Fin 2048 := backPlace (countTo (T b i) (dline X b i) (first X T b i))

/-- The distances of a row to the columns labelled `p`, the high filler elsewhere. -/
def nearLine (p : BitVec 32) (b : Fin 8) (i : Fin 2048) : Fin 2048 → EReal := fun j => if T b i j = p then dline X b i j else hi

/-- The term of the four nearest columns labelled one, in rounds. -/
def term4 (b : Fin 8) (i : Fin 2048) : EReal :=
  ((Round.next (Ideal.ofBits .f32 0x3F800000#32) (Ideal.ofBits .f32 0x40800000#32) hi)^[4] (Round.start (nearLine X T 1#32 b i))).value

/-- The term of the three nearest columns labelled two, in rounds. -/
def term3 (b : Fin 8) (i : Fin 2048) : EReal :=
  ((Round.next (Ideal.ofBits .f32 0x40000000#32) (Ideal.ofBits .f32 0x40400000#32) hi)^[3] (Round.start (nearLine X T 2#32 b i))).value

/-- A row's own loss. -/
def own (b : Fin 8) (i : Fin 2048) : EReal := term4 X T b i + term3 X T b i

/-- The loss of a row with its partner's, cut at zero. -/
def joint (b : Fin 8) (i : Fin 2048) : EReal := max (own X T b i + own X T b (place X T b i) + top X T b i) (Ideal.ofBits .f32 0x00000000#32)

/-- One batch's sum of squares. -/
def batchSum (b : Fin 8) : EReal := ∑ i, joint X T b i * joint X T b i

end Cert.Proof

end
-- ==== Proof.StatArrays.lean ====
/-
  The three arrays the statistics call leaves: per row the farthest counted distance, the row the gather names, the row's own
  loss.
-/
module

public import proofs.«01_k».proof.Proof.Gen.KernelIdeal.Frame
public import proofs.«01_k».proof.Proof.StatRows
public import proofs.«01_k».proof.Proof.Spec
public import Idealize.ShloMosaic.Lib.Pipeline.ValueKit

@[expose] public section

set_option maxRecDepth 16384

noncomputable section

namespace Cert.Proof.Ker

open Cert.KernelIdeal Cert.KernelIdeal.Gen
open Idealize.ShloMosaic Idealize.ShloMosaic.TcCoe
open Idealize.ShloMosaic.Pipeline (Dat Cfg Window)

section Block

variable {X : Pts} {T : Labs} {b : Fin 8} {i : Fin 2048} {r : Fin 256}
  {v0 : Vec Ideal S1x2048x32 .f32} {v2 : Vec Ideal S1x256x2048 .i32} {v8 : Vec Ideal S1x256x32 .f32}

/-- A row of the block's distances is a row of all distances. -/
theorem drow_eq (h0 : ∀ j c, v0 (ix3 0 j c) = X b j c) (h8 : ∀ c, v8 (ix3 0 r c) = X b i c) : drow v0 v8 r = dline X b i := by
  funext j
  unfold drow dline
  rw [dist_apply]
  simp only [h0, h8]

/-- A row of the block's labels is a row of all labels. -/
theorem lrow_eq (h2 : ∀ j, v2 (ix3 0 r j) = T b i j) : lrow v2 r = T b i := funext h2

/-- The stored maximum. -/
theorem top_stored (h0 : ∀ j c, v0 (ix3 0 j c) = X b j c) (h8 : ∀ c, v8 (ix3 0 r c) = X b i c) (h2 : ∀ j, v2 (ix3 0 r j) = T b i j) :
    k0_pay1 (k0_pay8 v0 v2 v8) (ix3 0 0 r) = top X T b i := by
  unfold top keptLine
  rw [← drow_eq h0 h8, ← lrow_eq h2, ← top_apply]
  pointwise [k0_pay1]

/-- The stored row number. -/
theorem place_stored (h0 : ∀ j c, v0 (ix3 0 j c) = X b j c) (h8 : ∀ c, v8 (ix3 0 r c) = X b i c) (h2 : ∀ j, v2 (ix3 0 r j) = T b i j) :
    k0_pay2 (k0_pay10 (iota .tc S256x2048 32 [1] iota_S256x2048_d1_w32) (k0_pay6 v0 v2 v8) (k0_pay9 v0 v2 v8)) (ix3 0 0 r)
      = BitVec.ofNat 32 (place X T b i).val := by
  have hf := first_spec X T b i
  unfold place
  unfold keptLine at hf
  rw [← drow_eq h0 h8, ← lrow_eq h2] at hf ⊢
  rw [← rank_apply v0 v2 v8 r _ hf]
  pointwise [k0_pay2]

/-- The stored loss. -/
theorem own_stored (h0 : ∀ j c, v0 (ix3 0 j c) = X b j c) (h8 : ∀ c, v8 (ix3 0 r c) = X b i c) (h2 : ∀ j, v2 (ix3 0 r j) = T b i j) :
    lossPay (k0_pay4 v2) (k0_pay5 v0 v8) (ix3 0 0 r) = own X T b i := by
  rw [lossPay_apply]
  have e : ∀ p : BitVec 32, (fun j => if k0_pay4 (F := Ideal) v2 (ix2 r j) = p then k0_pay5 v0 v8 (ix2 r j) else Ideal.ofBits .f32 0x7149F2CA#32)
      = nearLine X T p b i := by
    intro p
    funext j
    unfold nearLine
    rw [← drow_eq h0 h8, ← h2 j, label_apply]
    rfl
  rw [e, e]
  rfl

end Block

variable (V : (c : Dev nD) → (b : Ref sig .tc) → Buf (Elt Ideal) ((c : Thread nD τ).loc b))

/-- The points in a buffer of them. -/
def ptsOf (x : S8x2048x32.Idx → EReal) : Pts := fun b i c => x (ix3 b i c)

/-- The labels in a buffer of them. -/
def labsOf (t : S8x2048x2048.Idx → BitVec 32) : Labs := fun b i j => t (ix3 b i j)

/-- The batch of a block of rows. -/
def bat (t : Fin 64) : Fin 8 := ⟨t.val / 8, by omega⟩

/-- A row of a block of rows. -/
def rowAt (t : Fin 64) (r : Fin 256) : Fin 2048 := ⟨t.val % 8 * 256 + r.val, by omega⟩

theorem coords0 : ∀ t : Fin cfg0.N, (grid0.coords t 0).val = t.val / 8 ∧ (grid0.coords t 1).val = t.val % 8 := by
  exact (by decide +kernel : ∀ t : Fin grid0.N, (grid0.coords t 0).val = t.val / 8 ∧ (grid0.coords t 1).val = t.val % 8)
theorem off0 : ∀ t : Fin cfg0.N, k0_off1 (grid0.coords t) = ![0, t.val % 8 * 256, 0] := by
  exact (by decide +kernel : ∀ t : Fin grid0.N, k0_off1 (grid0.coords t) = ![0, t.val % 8 * 256, 0])
theorem idx0_0 : ∀ t : Fin cfg0.N, win0_0.index t = ![t.val / 8, 0, 0] := (by decide +kernel : ∀ t : Fin grid0.N, win0_0.index t = ![t.val / 8, 0, 0])
theorem idx0_1 : ∀ t : Fin cfg0.N, win0_1.index t = ![t.val / 8, t.val % 8, 0] := (by decide +kernel : ∀ t : Fin grid0.N, win0_1.index t = ![t.val / 8, t.val % 8, 0])
theorem idx0_2 : ∀ t : Fin cfg0.N, win0_2.index t = ![t.val, 0, 0] := (by decide +kernel : ∀ t : Fin grid0.N, win0_2.index t = ![t.val, 0, 0])
theorem idx0_3 : ∀ t : Fin cfg0.N, win0_3.index t = ![t.val, 0, 0] := (by decide +kernel : ∀ t : Fin grid0.N, win0_3.index t = ![t.val, 0, 0])
theorem idx0_4 : ∀ t : Fin cfg0.N, win0_4.index t = ![t.val, 0, 0] := (by decide +kernel : ∀ t : Fin grid0.N, win0_4.index t = ![t.val, 0, 0])

variable (c : Dev nD)

/-- The points the call finds. -/
abbrev X0 : Pts := ptsOf (V c main_arg0)
/-- The labels the call finds. -/
abbrev T0 : Labs := labsOf (V c main_arg1)

theorem blk0_apply (t : Fin cfg0.N) (j : Fin 2048) (k : Fin 32) : iblk0 V c 0 t (ix3 0 j k) = X0 V c (bat t) j k := by
  unfold X0 ptsOf bat
  blk_simp [iblk0]
  congr 1
  blk_ext [idx0_0 t]

theorem blk1_apply (t : Fin cfg0.N) (r : Fin 256) (j : Fin 2048) : iblk0 V c 1 t (ix3 0 r j) = T0 V c (bat t) (rowAt t r) j := by
  unfold T0 labsOf bat rowAt
  blk_simp [iblk0]
  congr 1
  blk_ext [idx0_1 t]

theorem blk8_apply (t : Fin cfg0.N) (h) (r : Fin 256) (k : Fin 32) :
    View.ld (Val := Elt Ideal) (iblk0 V c 0 t) (Rect.unit (s := S1x2048x32) (k0_off1 (grid0.coords t)) ![1, 256, 32] h) (ix3 0 r k)
      = X0 V c (bat t) (rowAt t r) k := by
  rw [← blk0_apply]
  refine View.ld_unit_apply_of _ _ _ _ _ _ fun a => ?_
  refine Eq.trans ?_ (congrArg (· + ((ix3 0 r k : S1x256x32.Idx) a).val) (congrFun (off0 t) a).symm)
  match a with
  | ⟨0, _⟩ => rfl
  | ⟨1, _⟩ => rfl
  | ⟨2, _⟩ => exact (Nat.zero_add _).symm

/-- The maxima array. -/
def topArr : S64x1x256.Idx → EReal := fun y => top (X0 V c) (T0 V c) (bat (y 0)) (rowAt (y 0) (y 2))
/-- The row-number array. -/
def placeArr : S64x1x256.Idx → BitVec 32 := fun y => BitVec.ofNat 32 (place (X0 V c) (T0 V c) (bat (y 0)) (rowAt (y 0) (y 2))).val
/-- The loss array. -/
def ownArr : S64x1x256.Idx → EReal := fun y => own (X0 V c) (T0 V c) (bat (y 0)) (rowAt (y 0) (y 2))

/-- An index of a block of results is a row. -/
theorem row_of (y : S1x1x256.Idx) : ∃ r : Fin 256, y = ix3 0 0 r := by
  refine ⟨y 2, ?_⟩
  rw [eq_ix3 y]
  exact congrArg₂ (fun a b => ix3 a b (y 2)) (Subsingleton.elim _ _) (Subsingleton.elim _ _)

theorem emb2 (t : Fin cfg0.N) (r : Fin 256) : ((View.whole main_v0_0).slice (win0_2.rect t)).emb (ix3 0 0 r) = ix3 t 0 r := by
  blk_ext [idx0_2 t]

theorem arr2 : (dat0 V c).arrAt 2 cfg0.N = topArr V c := by
  refine (dat0 V c).arrAt_eq_of_covers 2 _ (by decide +kernel) fun t hf y => ?_
  blk_simp
  rw [after0_2]
  unfold outsAt0
  frame_out
  obtain ⟨r, rfl⟩ := row_of y
  have h := top_stored (X := X0 V c) (T := T0 V c) (b := bat t) (i := rowAt t r) (blk0_apply V c t) (blk8_apply V c t (k0_off1_inb (grid0.coords t)) r) (blk1_apply V c t r)
  have h2 : topArr V c (((View.whole main_v0_0).slice (win0_2.rect t)).emb (ix3 0 0 r)) = top (X0 V c) (T0 V c) (bat t) (rowAt t r) := by
    rw [emb2]
    rfl
  exact h.trans h2.symm

theorem emb3 (t : Fin cfg0.N) (r : Fin 256) : ((View.whole main_v0_1).slice (win0_3.rect t)).emb (ix3 0 0 r) = ix3 t 0 r := by
  blk_ext [idx0_3 t]

theorem arr3 : (dat0 V c).arrAt 3 cfg0.N = placeArr V c := by
  refine (dat0 V c).arrAt_eq_of_covers 3 _ (by decide +kernel) fun t hf y => ?_
  blk_simp
  rw [after0_3]
  unfold outsAt0
  frame_out
  obtain ⟨r, rfl⟩ := row_of y
  have h := place_stored (X := X0 V c) (T := T0 V c) (b := bat t) (i := rowAt t r) (blk0_apply V c t) (blk8_apply V c t (k0_off1_inb (grid0.coords t)) r) (blk1_apply V c t r)
  have h2 : placeArr V c (((View.whole main_v0_1).slice (win0_3.rect t)).emb (ix3 0 0 r)) = BitVec.ofNat 32 (place (X0 V c) (T0 V c) (bat t) (rowAt t r)).val := by
    rw [emb3]
    rfl
  exact h.trans h2.symm

theorem emb4 (t : Fin cfg0.N) (r : Fin 256) : ((View.whole main_v0_2).slice (win0_4.rect t)).emb (ix3 0 0 r) = ix3 t 0 r := by
  blk_ext [idx0_4 t]

theorem arr4 : (dat0 V c).arrAt 4 cfg0.N = ownArr V c := by
  refine (dat0 V c).arrAt_eq_of_covers 4 _ (by decide +kernel) fun t hf y => ?_
  blk_simp
  rw [after0_4]
  unfold outsAt0
  frame_out
  obtain ⟨r, rfl⟩ := row_of y
  have h := own_stored (X := X0 V c) (T := T0 V c) (b := bat t) (i := rowAt t r) (blk0_apply V c t) (blk8_apply V c t (k0_off1_inb (grid0.coords t)) r) (blk1_apply V c t r)
  have h2 : ownArr V c (((View.whole main_v0_2).slice (win0_4.rect t)).emb (ix3 0 0 r)) = own (X0 V c) (T0 V c) (bat t) (rowAt t r) := by
    rw [emb4]
    rfl
  exact h.trans h2.symm

end Cert.Proof.Ker

end
-- ==== Proof.Combine.lean ====
/-
  The combining call: one batch's contribution, and the sum of the eight over the run.
-/
module

public import proofs.«01_k».proof.Proof.Gen.KernelIdeal.Frame
public import proofs.«01_k».proof.Proof.StatArrays
public import proofs.«01_k».proof.Proof.Spec
public import Idealize.ShloMosaic.Lib.Pipeline.ValueKit

@[expose] public section

set_option maxRecDepth 16384

noncomputable section

namespace Cert.Proof.Ker

open Cert.KernelIdeal Cert.KernelIdeal.Gen
open Idealize.ShloMosaic Idealize.ShloMosaic.TcCoe
open Idealize.ShloMosaic.Pipeline (Dat Cfg Window)

/-- A row of an equality indicator times a vector picks one entry. -/
theorem pick (L : Fin 2048 → EReal) (q : Fin 2048) :
    ∑ j : Fin 2048, FloatOps.sitofp (F := Ideal) FTy.f32 (BitVec.setWidth 32 (IntOp.cmpi .eq (BitVec.ofNat 32 q.val) (BitVec.ofNat 32 j.val))) * L j
      = L q := by
  rw [Finset.sum_eq_single q]
  · have e : IntOp.cmpi .eq (BitVec.ofNat 32 q.val) (BitVec.ofNat 32 q.val) = 1#1 := by simp [IntOp.cmpi]
    have e1 : FloatOps.sitofp (F := Ideal) FTy.f32 (BitVec.setWidth 32 1#1) = 1 := by
      show (((BitVec.setWidth 32 1#1).toInt : ℝ) : EReal) = 1
      rw [show (BitVec.setWidth 32 1#1).toInt = 1 by decide]
      norm_num
    rw [e, e1, one_mul]
  · intro j _ hj
    have hne : BitVec.ofNat 32 q.val ≠ BitVec.ofNat 32 j.val := by
      intro h
      have h2 := congrArg BitVec.toNat h
      simp only [BitVec.toNat_ofNat] at h2
      exact hj (Fin.ext (by omega))
    have e : IntOp.cmpi .eq (BitVec.ofNat 32 q.val) (BitVec.ofNat 32 j.val) = 0#1 := by simp [IntOp.cmpi, beq_eq_false_iff_ne.mpr hne]
    have e1 : FloatOps.sitofp (F := Ideal) FTy.f32 (BitVec.setWidth 32 0#1) = 0 := by
      show (((BitVec.setWidth 32 0#1).toInt : ℝ) : EReal) = 0
      rw [show (BitVec.setWidth 32 0#1).toInt = 0 by decide]
      norm_num
    rw [e, e1, zero_mul]
  · exact fun h => absurd (Finset.mem_univ _) h

/-- One batch's step: the accumulator plus the batch's sum of squares over the number of all rows. -/
theorem step_apply {g : Vec Ideal S1x1x2048 .i32} {l pp : Vec Ideal S1x1x2048 .f32} {L P : Fin 2048 → EReal} {q : Fin 2048 → Fin 2048}
    (hg : ∀ n, g (ix3 0 0 n) = BitVec.ofNat 32 (q n).val) (hl : ∀ n, l (ix3 0 0 n) = L n) (hp : ∀ n, pp (ix3 0 0 n) = P n)
    (a : Vec Ideal S1x1 .f32) :
    k1_pay2 g l pp a (ix2 0 0) = a (ix2 0 0) + Ideal.div (∑ n, max (L n + L (q n) + P n) (Ideal.ofBits .f32 0x00000000#32)
      * max (L n + L (q n) + P n) (Ideal.ofBits .f32 0x00000000#32)) (Ideal.ofBits .f32 0x46800000#32) := by
  pointwise [k1_pay2]
  simp only [hg, hl, hp, pick]

/-- A one-by-one block has one index. -/
theorem cell (j : S1x1.Idx) : j = ix2 0 0 := by
  rw [eq_ix2 j]
  exact congrArg₂ (fun a b => ix2 a b) (Subsingleton.elim _ _) (Subsingleton.elim _ _)

/-- The accumulator starts at zero. -/
theorem init_apply : k1_pay1 (F := Ideal) (ix2 0 0) = 0 := by
  pointwise [k1_pay1]

section Run

variable (V : (c : Dev nD) → (b : Ref sig .tc) → Buf (Elt Ideal) ((c : Thread nD τ).loc b)) (c : Dev nD)
variable {L P : Fin 8 → Fin 2048 → EReal} {q : Fin 8 → Fin 2048 → Fin 2048}

theorem idx1_0 : ∀ t : Fin cfg1.N, win1_0.index t = ![t.val, 0, 0] := (by decide +kernel : ∀ t : Fin grid1.N, win1_0.index t = ![t.val, 0, 0])
theorem idx1_1 : ∀ t : Fin cfg1.N, win1_1.index t = ![t.val, 0, 0] := (by decide +kernel : ∀ t : Fin grid1.N, win1_1.index t = ![t.val, 0, 0])
theorem idx1_2 : ∀ t : Fin cfg1.N, win1_2.index t = ![t.val, 0, 0] := (by decide +kernel : ∀ t : Fin grid1.N, win1_2.index t = ![t.val, 0, 0])

theorem cblk0_apply (t : Fin cfg1.N) (n : Fin 2048) : iblk1 V c 0 t (ix3 0 0 n) = (V c main_v1 : S8x1x2048.Idx → EReal) (ix3 t 0 n) := by
  blk_simp [iblk1]
  congr 1
  blk_ext [idx1_0 t]
theorem cblk1_apply (t : Fin cfg1.N) (n : Fin 2048) : iblk1 V c 1 t (ix3 0 0 n) = (V c main_v2 : S8x1x2048.Idx → BitVec 32) (ix3 t 0 n) := by
  blk_simp [iblk1]
  congr 1
  blk_ext [idx1_1 t]
theorem cblk2_apply (t : Fin cfg1.N) (n : Fin 2048) : iblk1 V c 2 t (ix3 0 0 n) = (V c main_v3 : S8x1x2048.Idx → EReal) (ix3 t 0 n) := by
  blk_simp [iblk1]
  congr 1
  blk_ext [idx1_2 t]

/-- One batch's contribution. -/
def share (L P : Fin 2048 → EReal) (q : Fin 2048 → Fin 2048) : EReal :=
  Ideal.div (∑ n, max (L n + L (q n) + P n) (Ideal.ofBits .f32 0x00000000#32)
      * max (L n + L (q n) + P n) (Ideal.ofBits .f32 0x00000000#32)) (Ideal.ofBits .f32 0x46800000#32)

/-- What the accumulator holds after the last batch. -/
theorem acc_last (hP : ∀ b n, (V c main_v1 : S8x1x2048.Idx → EReal) (ix3 b 0 n) = P b n)
    (hq : ∀ b n, (V c main_v2 : S8x1x2048.Idx → BitVec 32) (ix3 b 0 n) = BitVec.ofNat 32 (q b n).val)
    (hL : ∀ b n, (V c main_v3 : S8x1x2048.Idx → EReal) (ix3 b 0 n) = L b n) (t : Fin cfg1.N) (ht : t.val + 1 = cfg1.N) (j : S1x1.Idx) :
    outsAt1 V c t.val t.isLt j = ∑ b : Fin 8, share (L b) (P b) (q b) := by
  rw [Pipeline.eq_sum_fin_of_reset_step_apply_last (fun n h => outsAt1 V c n h) 8 (fun _ => (0 : EReal)) (fun t _ => share (L t) (P t) (q t))
    (fun t h j => by
      rw [outsAt1_A V c t h]; frame_out
      rw [cell j, step_apply (L := L t) (P := P t) (q := q t)
        (fun n => (cblk1_apply V c t n).trans (hq _ _)) (fun n => (cblk2_apply V c t n).trans (hL _ _)) (fun n => (cblk0_apply V c t n).trans (hP _ _)), init_apply]
      rfl)
    (fun t h j => by
      rw [outsAt1_B V c t h]; frame_out
      rw [cell j, step_apply (L := L t) (P := P t) (q := q t)
        (fun n => (cblk1_apply V c t n).trans (hq _ _)) (fun n => (cblk2_apply V c t n).trans (hL _ _)) (fun n => (cblk0_apply V c t n).trans (hP _ _))]
      rfl)
    (le_of_eq N_1) t ht j, zero_add]
  rfl

/-- What the call leaves. -/
theorem arr_acc (hP : ∀ b n, (V c main_v1 : S8x1x2048.Idx → EReal) (ix3 b 0 n) = P b n)
    (hq : ∀ b n, (V c main_v2 : S8x1x2048.Idx → BitVec 32) (ix3 b 0 n) = BitVec.ofNat 32 (q b n).val)
    (hL : ∀ b n, (V c main_v3 : S8x1x2048.Idx → EReal) (ix3 b 0 n) = L b n) :
    (dat1 V c).arrAt 3 cfg1.N = (fun _ => ∑ b : Fin 8, share (L b) (P b) (q b) : S1x1.Idx → EReal) := by
  refine (dat1 V c).arrAt_eq_of_after_last 3 ⟨7, (by decide : 7 < grid1.N)⟩ (by decide +kernel) _ fun y => ?_
  refine (congrFun (after1_3 V c ⟨7, (by decide : 7 < grid1.N)⟩) _).trans ?_
  exact acc_last V c hP hq hL ⟨7, (by decide : 7 < grid1.N)⟩ (by exact N_1.symm) _

end Run

end Cert.Proof.Ker

end
-- ==== Proof.KernelValue.lean ====
/-
  What the kernel leaves in its result buffer, as a function of its two arguments.
-/
module

public import proofs.«01_k».proof.Proof.KernelRun
public import proofs.«01_k».proof.Proof.Combine

@[expose] public section

set_option maxRecDepth 16384

noncomputable section

namespace Cert.Proof.Ker

open Cert.KernelIdeal Cert.KernelIdeal.Gen
open Idealize.ShloMosaic Idealize.ShloMosaic.TcCoe

/-- Rows by blocks, relaid by batches. -/
theorem relaid {α : Type} (f : S64x1x256.Idx → α) (b : Fin 8) (n : Fin 2048) :
    shapeCast S8x1x2048 f shapeCasts_S64x1x256_S8x1x2048 (ix3 b 0 n)
      = f (ix3 ⟨b.val * 8 + n.val / 256, by omega⟩ 0 ⟨n.val % 256, by omega⟩) := by
  refine shapeCast_apply _ _ _ _ ?_
  rw [Shape.rowMajor_val_three, Shape.rowMajor_val_three]
  show ((b.val * 8 + n.val / 256) * 1 + 0) * 256 + n.val % 256 = (b.val * 1 + 0) * 2048 + n.val
  omega

theorem bat_relaid (b : Fin 8) (n : Fin 2048) : bat ⟨b.val * 8 + n.val / 256, by omega⟩ = b := by
  apply Fin.ext
  show (b.val * 8 + n.val / 256) / 8 = b.val
  omega

theorem row_relaid (b : Fin 8) (n : Fin 2048) : rowAt ⟨b.val * 8 + n.val / 256, by omega⟩ ⟨n.val % 256, by omega⟩ = n := by
  apply Fin.ext
  show (b.val * 8 + n.val / 256) % 8 * 256 + n.val % 256 = n.val
  omega

variable (m : (ℓ : Loc nD τ sig) → Buf (Elt Ideal) ℓ) (ρ : Dev nD → PrngReg) (c : Dev nD)

/-- The points a memory holds. -/
abbrev Xm : Pts := ptsOf (m ((c.tc : Thread nD τ).loc main_arg0))
/-- The labels a memory holds. -/
abbrev Tm : Labs := labsOf (m ((c.tc : Thread nD τ).loc main_arg1))

theorem V2_v1 (b : Fin 8) (n : Fin 2048) : (V2 m ρ c main_v1 : S8x1x2048.Idx → EReal) (ix3 b 0 n) = top (Xm m c) (Tm m c) b n := by
  have h : (V2 m ρ c main_v1 : S8x1x2048.Idx → EReal) = shapeCast S8x1x2048 (topArr (V0 m ρ) c) shapeCasts_S64x1x256_S8x1x2048 := by
    rw [← arr2 (V0 m ρ) c, ← W1_arr m ρ c 2]
    rfl
  rw [h, relaid]
  exact congrArg₂ (top (Xm m c) (Tm m c)) (bat_relaid b n) (row_relaid b n)

theorem V2_v2 (b : Fin 8) (n : Fin 2048) : (V2 m ρ c main_v2 : S8x1x2048.Idx → BitVec 32) (ix3 b 0 n) = BitVec.ofNat 32 (place (Xm m c) (Tm m c) b n).val := by
  have h : (V2 m ρ c main_v2 : S8x1x2048.Idx → BitVec 32) = shapeCast S8x1x2048 (placeArr (V0 m ρ) c) shapeCasts_S64x1x256_S8x1x2048 := by
    rw [← arr3 (V0 m ρ) c, ← W1_arr m ρ c 3]
    rfl
  rw [h, relaid]
  exact congrArg₂ (fun x y => BitVec.ofNat 32 (place (Xm m c) (Tm m c) x y).val) (bat_relaid b n) (row_relaid b n)

theorem V2_v3 (b : Fin 8) (n : Fin 2048) : (V2 m ρ c main_v3 : S8x1x2048.Idx → EReal) (ix3 b 0 n) = own (Xm m c) (Tm m c) b n := by
  have h : (V2 m ρ c main_v3 : S8x1x2048.Idx → EReal) = shapeCast S8x1x2048 (ownArr (V0 m ρ) c) shapeCasts_S64x1x256_S8x1x2048 := by
    rw [← arr4 (V0 m ρ) c, ← W1_arr m ρ c 4]
    rfl
  rw [h, relaid]
  exact congrArg₂ (own (Xm m c) (Tm m c)) (bat_relaid b n) (row_relaid b n)

/-- The kernel's value. -/
def val (X : Pts) (T : Labs) : EReal := ∑ b, Ideal.div (batchSum X T b) (Ideal.ofBits .f32 0x46800000#32)

/-- The result buffer holds it. -/
theorem W4_v5 : W4 m ρ c (Proc.devRef .tc main_v5) = (fun _ => val (Xm m c) (Tm m c) : S_.Idx → EReal) := by
  have h : W4 m ρ c (Proc.devRef .tc main_v5) = shapeCast S_ (W3 m ρ c (Proc.devRef .tc main_v4) : S1x1.Idx → EReal) shapeCasts_S1x1_S_ := rfl
  rw [h, show (W3 m ρ c (Proc.devRef .tc main_v4) : S1x1.Idx → EReal) = (dat1 (V2 m ρ) c).arrAt 3 cfg1.N from W3_arr m ρ c 3,
    arr_acc (V2 m ρ) c (V2_v1 m ρ c) (V2_v2 m ρ c) (V2_v3 m ρ c)]
  rfl

end Cert.Proof.Ker

end
-- ==== Proof.RefOps.lean ====
/-
  The reference's host operations as lists, in segments that end where a named quantity is complete, and its run: every
  weakly fair execution ends with each buffer at what the operations compute, in order, from the launch contents.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Segment A: the distances, the positive mask, the positive distances and their row maxima. -/
abbrev segA : List (HloOp τ sig (Elt F)) :=
  [ binary main_arg0 main_arg0 main_v0 (mulf : (⟨S8x2048x32, .f32⟩ : BufTy).Contents (Elt F) → (⟨S8x2048x32, .f32⟩ : BufTy).Contents (Elt F) → (⟨S8x2048x32, .f32⟩ : BufTy).Contents (Elt F)),
    nullary main_cst (constant S_ .f32 0x00000000#32),
    binary main_v0 main_cst main_v1 ((fun x v => Host.reduceAdd x v reducesTo_S8x2048x32_S8x2048_d2 h_S_) : (⟨S8x2048x32, .f32⟩ : BufTy).Contents (Elt F) → (⟨S_, .f32⟩ : BufTy).Contents (Elt F) → (⟨S8x2048, .f32⟩ : BufTy).Contents (Elt F)),
    unary main_v1 main_v2 (broadcastInDim S8x2048x1 ![0, 1] bcast_S8x2048_S8x2048x1_0_1 : (⟨S8x2048, .f32⟩ : BufTy).Contents (Elt F) → (⟨S8x2048x1, .f32⟩ : BufTy).Contents (Elt F)),
    unary main_v2 main_v3 ((transpose S8x1x2048 [0, 2, 1] · transposes_S8x2048x1_S8x1x2048_0_2_1) : (⟨S8x2048x1, .f32⟩ : BufTy).Contents (Elt F) → (⟨S8x1x2048, .f32⟩ : BufTy).Contents (Elt F)),
    unary main_v2 main_v4 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    unary main_v3 main_v5 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v4 main_v5 main_v6 (addf : (⟨S8x2048x2048, .f32⟩ : BufTy).Contents (Elt F) → (⟨S8x2048x2048, .f32⟩ : BufTy).Contents (Elt F) → (⟨S8x2048x2048, .f32⟩ : BufTy).Contents (Elt F)),
    unary main_arg0 main_v7 ((transpose S8x32x2048 [0, 2, 1] · transposes_S8x2048x32_S8x32x2048_0_2_1) : (⟨S8x2048x32, .f32⟩ : BufTy).Contents (Elt F) → (⟨S8x32x2048, .f32⟩ : BufTy).Contents (Elt F)),
    binary main_arg0 main_v7 main_v8 ((fun l r => Host.dotGeneral dot_S8x2048x32_S8x32x2048_S8x2048x2048_2_1_1_2_0_0 none l r) : (⟨S8x2048x32, .f32⟩ : BufTy).Contents (Elt F) → (⟨S8x32x2048, .f32⟩ : BufTy).Contents (Elt F) → (⟨S8x2048x2048, .f32⟩ : BufTy).Contents (Elt F)),
    nullary main_cst_0 (constant S_ .f32 0x40000000#32),
    unary main_cst_0 main_v9 (broadcastInDim S8x2048x2048 ![] bcast_S_S8x2048x2048 : (⟨S_, .f32⟩ : BufTy).Contents (Elt F) → (⟨S8x2048x2048, .f32⟩ : BufTy).Contents (Elt F)),
    binary main_v9 main_v8 main_v10 (mulf : (⟨S8x2048x2048, .f32⟩ : BufTy).Contents (Elt F) → (⟨S8x2048x2048, .f32⟩ : BufTy).Contents (Elt F) → (⟨S8x2048x2048, .f32⟩ : BufTy).Contents (Elt F)),
    binary main_v6 main_v10 main_v11 (subf : (⟨S8x2048x2048, .f32⟩ : BufTy).Contents (Elt F) → (⟨S8x2048x2048, .f32⟩ : BufTy).Contents (Elt F) → (⟨S8x2048x2048, .f32⟩ : BufTy).Contents (Elt F)),
    nullary main_c (constantI S_ 32 0#32),
    unary main_c main_v12 (broadcastInDim S8x2048x2048 ![] bcast_S_S8x2048x2048 : (⟨S_, .i32⟩ : BufTy).Contents (Elt F) → (⟨S8x2048x2048, .i32⟩ : BufTy).Contents (Elt F)),
    binary main_arg1 main_v12 main_v13 (cmpi .eq : (⟨S8x2048x2048, .i32⟩ : BufTy).Contents (Elt F) → (⟨S8x2048x2048, .i32⟩ : BufTy).Contents (Elt F) → (⟨S8x2048x2048, .i1⟩ : BufTy).Contents (Elt F)),
    nullary main_cst_1 (constant S_ .f32 0x00000000#32),
    unary main_cst_1 main_v14 (broadcastInDim S8x2048x2048 ![] bcast_S_S8x2048x2048 : (⟨S_, .f32⟩ : BufTy).Contents (Elt F) → (⟨S8x2048x2048, .f32⟩ : BufTy).Contents (Elt F)),
    binary main_v11 main_v14 main_v15 (cmpf .ogt : (⟨S8x2048x2048, .f32⟩ : BufTy).Contents (Elt F) → (⟨S8x2048x2048, .f32⟩ : BufTy).Contents (Elt F) → (⟨S8x2048x2048, .i1⟩ : BufTy).Contents (Elt F)),
    binary main_v13 main_v15 main_v16 (andi : (⟨S8x2048x2048, .i1⟩ : BufTy).Contents (Elt F) → (⟨S8x2048x2048, .i1⟩ : BufTy).Contents (Elt F) → (⟨S8x2048x2048, .i1⟩ : BufTy).Contents (Elt F)),
    nullary main_cst_2 (constant S_ .f32 0xF149F2CA#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2048x2048, .f32⟩) main_call0_v1) (broadcastInDim S2048x2048 ![] bcast_S_S2048x2048),
    TRef.unary (TRef.of (T := ⟨S2048x2048, .f32⟩) main_call0_v1) (TRef.of (T := ⟨S8x2048x2048, .f32⟩) main_call0_v2) (broadcastInDim S8x2048x2048 ![1, 2] bcast_S2048x2048_S8x2048x2048_1_2),
    TRef.ternary (TRef.of (T := ⟨S8x2048x2048, .i1⟩) main_v16) (TRef.of (T := ⟨S8x2048x2048, .f32⟩) main_v11) (TRef.of (T := ⟨S8x2048x2048, .f32⟩) main_call0_v2) (TRef.of (T := ⟨S8x2048x2048, .f32⟩) main_v17) select,
    nullary main_cst_3 (constant S_ .f32 0xFF800000#32),
    binary main_v17 main_cst_3 main_v18 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)) ]

/-- Segment B: the position of the row maximum among the positives. -/
abbrev segB : List (HloOp τ sig (Elt F)) :=
  [ TRef.nullary (TRef.of (T := ⟨S8x2048x2048, .i32⟩) main_call1_v0) (iotaInDim S8x2048x2048 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8x2048x2048, .f32⟩) main_v17) (TRef.of (T := ⟨S8x2048x2048, .i32⟩) main_call1_v0) (TRef.of (T := ⟨S_, .f32⟩) main_call1_cst) (TRef.of (T := ⟨S_, .i32⟩) main_call1_c) (TRef.of (T := ⟨S8x2048, .f32⟩) main_call1_v1_0) (fun x y u v j => (Host.argReduce reducer_argmax_f32_i32 x y u v reducesTo_S8x2048x2048_S8x2048_d2 h_S_ j).1),
    TRef.quaternary (TRef.of (T := ⟨S8x2048x2048, .f32⟩) main_v17) (TRef.of (T := ⟨S8x2048x2048, .i32⟩) main_call1_v0) (TRef.of (T := ⟨S_, .f32⟩) main_call1_cst) (TRef.of (T := ⟨S_, .i32⟩) main_call1_c) (TRef.of (T := ⟨S8x2048, .i32⟩) main_v19) (fun x y u v j => (Host.argReduce reducer_argmax_f32_i32 x y u v reducesTo_S8x2048x2048_S8x2048_d2 h_S_ j).2),
    unary main_v16 main_v20 ((extui 32 · natLt_1_32) : (⟨S8x2048x2048, .i1⟩ : BufTy).Contents (Elt F) → (⟨S8x2048x2048, .i32⟩ : BufTy).Contents (Elt F)),
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S8x2048x2048, .i32⟩) main_v20) (TRef.of (T := ⟨S_, .i32⟩) main_call2_call0_v0) (TRef.of (T := ⟨S8x2048x2048, .i32⟩) main_v21) (fun x v => Host.reduceWindow IntOp.addi ![1, 1, 2048] ![1, 1, 1] ![0, 0, 2047] ![0, 0, 0] x v reduceWindows_S8x2048x2048_S8x2048x2048_w1s1p0_0_w1s1p0_0_w2048s1p2047_0 h_S_),
    unary main_v19 main_v22 (broadcastInDim S8x2048x1 ![0, 1] bcast_S8x2048_S8x2048x1_0_1 : (⟨S8x2048, .i32⟩ : BufTy).Contents (Elt F) → (⟨S8x2048x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x2048x1, .i32⟩) main_call3_v0) (broadcastInDim S8x2048x1 ![] bcast_S_S8x2048x1),
    TRef.binary (TRef.of (T := ⟨S8x2048x1, .i32⟩) main_v22) (TRef.of (T := ⟨S8x2048x1, .i32⟩) main_call3_v0) (TRef.of (T := ⟨S8x2048x1, .i1⟩) main_call3_v1) (cmpi .slt),
    TRef.nullary (TRef.of (T := ⟨S_, .i32⟩) main_call3_c_0) (constantI S_ 32 2048#32),
    TRef.unary (TRef.of (T := ⟨S_, .i32⟩) main_call3_c_0) (TRef.of (T := ⟨S8x2048x1, .i32⟩) main_call3_v2) (broadcastInDim S8x2048x1 ![] bcast_S_S8x2048x1),
    TRef.binary (TRef.of (T := ⟨S8x2048x1, .i32⟩) main_v22) (TRef.of (T := ⟨S8x2048x1, .i32⟩) main_call3_v2) (TRef.of (T := ⟨S8x2048x1, .i32⟩) main_call3_v3) addi,
    TRef.ternary (TRef.of (T := ⟨S8x2048x1, .i1⟩) main_call3_v1) (TRef.of (T := ⟨S8x2048x1, .i32⟩) main_call3_v3) (TRef.of (T := ⟨S8x2048x1, .i32⟩) main_v22) (TRef.of (T := ⟨S8x2048x1, .i32⟩) main_call3_v4) select,
    TRef.reshape (TRef.of (T := ⟨S8x2048x1, .i32⟩) main_call3_v4) (TRef.of (T := ⟨S8x2048x1x1, .i32⟩) main_call3_v5) (rfl : (.i32 : EltTy) = .i32) shapeCasts_S8x2048x1_S8x2048x1x1,
    TRef.nullary (TRef.of (T := ⟨S1, .i32⟩) main_call3_c_1) (constantI S1 32 2047#32),
    TRef.nullary (TRef.of (T := ⟨S_, .i32⟩) main_call3_c_2) (constantI S_ 32 0#32),
    TRef.unary (TRef.of (T := ⟨S_, .i32⟩) main_call3_c_2) (TRef.of (T := ⟨S8x2048x1x1, .i32⟩) main_call3_v6) (broadcastInDim S8x2048x1x1 ![] bcast_S_S8x2048x1x1),
    TRef.binary (TRef.of (T := ⟨S8x2048x1x1, .i32⟩) main_call3_v5) (TRef.of (T := ⟨S8x2048x1x1, .i32⟩) main_call3_v6) (TRef.of (T := ⟨S8x2048x1x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S8x2048x1x1, .i32⟩) main_call3_v9) (broadcastInDim S8x2048x1x1 ![0, 1, 2, 3] bcast_S1x1x1x1_S8x2048x1x1_0_1_2_3),
    TRef.binary (TRef.of (T := ⟨S8x2048x1x1, .i32⟩) main_call3_v5) (TRef.of (T := ⟨S8x2048x1x1, .i32⟩) main_call3_v9) (TRef.of (T := ⟨S8x2048x1x1, .i1⟩) main_call3_v10) (cmpi .sle),
    TRef.binary (TRef.of (T := ⟨S8x2048x1x1, .i1⟩) main_call3_v7) (TRef.of (T := ⟨S8x2048x1x1, .i1⟩) main_call3_v10) (TRef.of (T := ⟨S8x2048x1x1, .i1⟩) main_call3_v11) andi,
    TRef.nullary (TRef.of (T := ⟨S_, .i1⟩) main_call3_c_3) (constantI S_ 1 1#1),
    TRef.binary (TRef.of (T := ⟨S8x2048x1x1, .i1⟩) main_call3_v11) (TRef.of (T := ⟨S_, .i1⟩) main_call3_c_3) (TRef.of (T := ⟨S8x2048x1, .i1⟩) main_call3_v12) (fun x v => Host.reduce IntOp.andi x v reducesTo_S8x2048x1x1_S8x2048x1_d3 h_S_),
    TRef.binary (TRef.of (T := ⟨S8x2048x2048, .i32⟩) main_v21) (TRef.of (T := ⟨S8x2048x1x1, .i32⟩) main_call3_v5) (TRef.of (T := ⟨S8x2048x1, .i32⟩) main_call3_v13) (fun x i => Host.gather gather_S8x2048x2048_S8x2048x1x1_S8x2048x1_n_2_01_01_2_3_111 x i),
    TRef.nullary (TRef.of (T := ⟨S_, .i32⟩) main_call3_c_4) (constantI S_ 32 2147483648#32),
    TRef.unary (TRef.of (T := ⟨S_, .i32⟩) main_call3_c_4) (TRef.of (T := ⟨S8x2048x1, .i32⟩) main_call3_v14) (broadcastInDim S8x2048x1 ![] bcast_S_S8x2048x1),
    TRef.ternary (TRef.of (T := ⟨S8x2048x1, .i1⟩) main_call3_v12) (TRef.of (T := ⟨S8x2048x1, .i32⟩) main_call3_v13) (TRef.of (T := ⟨S8x2048x1, .i32⟩) main_call3_v14) (TRef.of (T := ⟨S8x2048x1, .i32⟩) main_v23) select,
    reshape main_v23 main_v24 (rfl : (.i32 : EltTy) = .i32) shapeCasts_S8x2048x1_S8x2048,
    nullary main_c_4 (constantI S_ 32 1#32),
    unary main_c_4 main_v25 (broadcastInDim S8x2048 ![] bcast_S_S8x2048 : (⟨S_, .i32⟩ : BufTy).Contents (Elt F) → (⟨S8x2048, .i32⟩ : BufTy).Contents (Elt F)),
    binary main_v24 main_v25 main_v26 (subi : (⟨S8x2048, .i32⟩ : BufTy).Contents (Elt F) → (⟨S8x2048, .i32⟩ : BufTy).Contents (Elt F) → (⟨S8x2048, .i32⟩ : BufTy).Contents (Elt F)) ]

/-- Segment C: the rows that position names, and the zero the losses start from. -/
abbrev segC : List (HloOp τ sig (Elt F)) :=
  [ nullary main_c_5 (constantI S_ 32 0#32),
    unary main_c_5 main_v27 (broadcastInDim S8x2048 ![] bcast_S_S8x2048 : (⟨S_, .i32⟩ : BufTy).Contents (Elt F) → (⟨S8x2048, .i32⟩ : BufTy).Contents (Elt F)),
    binary main_v26 main_v27 main_v28 (cmpi .slt : (⟨S8x2048, .i32⟩ : BufTy).Contents (Elt F) → (⟨S8x2048, .i32⟩ : BufTy).Contents (Elt F) → (⟨S8x2048, .i1⟩ : BufTy).Contents (Elt F)),
    nullary main_c_6 (constantI S_ 32 2048#32),
    unary main_c_6 main_v29 (broadcastInDim S8x2048 ![] bcast_S_S8x2048 : (⟨S_, .i32⟩ : BufTy).Contents (Elt F) → (⟨S8x2048, .i32⟩ : BufTy).Contents (Elt F)),
    binary main_v26 main_v29 main_v30 (addi : (⟨S8x2048, .i32⟩ : BufTy).Contents (Elt F) → (⟨S8x2048, .i32⟩ : BufTy).Contents (Elt F) → (⟨S8x2048, .i32⟩ : BufTy).Contents (Elt F)),
    ternary main_v28 main_v30 main_v26 main_v31 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v31 main_v32 (broadcastInDim S8x2048x1 ![0, 1] bcast_S8x2048_S8x2048x1_0_1 : (⟨S8x2048, .i32⟩ : BufTy).Contents (Elt F) → (⟨S8x2048x1, .i32⟩ : BufTy).Contents (Elt F)),
    binary main_v11 main_v32 main_v33 ((fun x i => Host.gather gather_S8x2048x2048_S8x2048x1_S8x2048x2048_2_1_0_0_1_2_112048 x i) : (⟨S8x2048x2048, .f32⟩ : BufTy).Contents (Elt F) → (⟨S8x2048x1, .i32⟩ : BufTy).Contents (Elt F) → (⟨S8x2048x2048, .f32⟩ : BufTy).Contents (Elt F)),
    nullary main_c_7 (constantI S_ 32 0#32),
    unary main_c_7 main_v34 (broadcastInDim S8x2048 ![] bcast_S_S8x2048 : (⟨S_, .i32⟩ : BufTy).Contents (Elt F) → (⟨S8x2048, .i32⟩ : BufTy).Contents (Elt F)),
    binary main_v26 main_v34 main_v35 (cmpi .slt : (⟨S8x2048, .i32⟩ : BufTy).Contents (Elt F) → (⟨S8x2048, .i32⟩ : BufTy).Contents (Elt F) → (⟨S8x2048, .i1⟩ : BufTy).Contents (Elt F)),
    nullary main_c_8 (constantI S_ 32 2048#32),
    unary main_c_8 main_v36 (broadcastInDim S8x2048 ![] bcast_S_S8x2048 : (⟨S_, .i32⟩ : BufTy).Contents (Elt F) → (⟨S8x2048, .i32⟩ : BufTy).Contents (Elt F)),
    binary main_v26 main_v36 main_v37 (addi : (⟨S8x2048, .i32⟩ : BufTy).Contents (Elt F) → (⟨S8x2048, .i32⟩ : BufTy).Contents (Elt F) → (⟨S8x2048, .i32⟩ : BufTy).Contents (Elt F)),
    ternary main_v35 main_v37 main_v26 main_v38 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v38 main_v39 (broadcastInDim S8x2048x1 ![0, 1] bcast_S8x2048_S8x2048x1_0_1 : (⟨S8x2048, .i32⟩ : BufTy).Contents (Elt F) → (⟨S8x2048x1, .i32⟩ : BufTy).Contents (Elt F)),
    binary main_arg1 main_v39 main_v40 ((fun x i => Host.gather gather_S8x2048x2048_S8x2048x1_S8x2048x2048_2_1_0_0_1_2_112048 x i) : (⟨S8x2048x2048, .i32⟩ : BufTy).Contents (Elt F) → (⟨S8x2048x1, .i32⟩ : BufTy).Contents (Elt F) → (⟨S8x2048x2048, .i32⟩ : BufTy).Contents (Elt F)),
    nullary main_cst_9 (constant S_ .f32 0x00000000#32),
    unary main_cst_9 main_v41 (broadcastInDim S2048 ![] bcast_S_S2048 : (⟨S_, .f32⟩ : BufTy).Contents (Elt F) → (⟨S2048, .f32⟩ : BufTy).Contents (Elt F)) ]

/-- Segment D0: the negated first-pass distances of the left rows. -/
abbrev segD0 : List (HloOp τ sig (Elt F)) :=
  [ nullary main_c_10 (constantI S_ 32 1#32),
    unary main_c_10 main_v42 (broadcastInDim S8x2048x2048 ![] bcast_S_S8x2048x2048 : (⟨S_, .i32⟩ : BufTy).Contents (Elt F) → (⟨S8x2048x2048, .i32⟩ : BufTy).Contents (Elt F)),
    binary main_arg1 main_v42 main_v43 (cmpi .eq : (⟨S8x2048x2048, .i32⟩ : BufTy).Contents (Elt F) → (⟨S8x2048x2048, .i32⟩ : BufTy).Contents (Elt F) → (⟨S8x2048x2048, .i1⟩ : BufTy).Contents (Elt F)),
    nullary main_cst_11 (constant S_ .f32 0x7149F2CA#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S2048x2048, .f32⟩) main_call4_v1) (broadcastInDim S2048x2048 ![] bcast_S_S2048x2048),
    TRef.unary (TRef.of (T := ⟨S2048x2048, .f32⟩) main_call4_v1) (TRef.of (T := ⟨S8x2048x2048, .f32⟩) main_call4_v2) (broadcastInDim S8x2048x2048 ![1, 2] bcast_S2048x2048_S8x2048x2048_1_2),
    TRef.ternary (TRef.of (T := ⟨S8x2048x2048, .i1⟩) main_v43) (TRef.of (T := ⟨S8x2048x2048, .f32⟩) main_v11) (TRef.of (T := ⟨S8x2048x2048, .f32⟩) main_call4_v2) (TRef.of (T := ⟨S8x2048x2048, .f32⟩) main_v44) select,
    unary main_v44 main_v45 (Host.negf : (⟨S8x2048x2048, .f32⟩ : BufTy).Contents (Elt F) → (⟨S8x2048x2048, .f32⟩ : BufTy).Contents (Elt F)) ]

/-- Segment D1: the first-pass loss of the left rows. -/
abbrev segD1 : List (HloOp τ sig (Elt F)) :=
  [ unary main_v45 main_values ((fun x => (Host.topK S8x2048x4 2 (FloatOps.cmpfTotal .gt) x sliceFits_S8x2048x2048_S8x2048x4).1) : (⟨S8x2048x2048, .f32⟩ : BufTy).Contents (Elt F) → (⟨S8x2048x4, .f32⟩ : BufTy).Contents (Elt F)),
    unary main_v45 main_indices ((fun x => (Host.topK S8x2048x4 2 (FloatOps.cmpfTotal .gt) x sliceFits_S8x2048x2048_S8x2048x4).2) : (⟨S8x2048x2048, .f32⟩ : BufTy).Contents (Elt F) → (⟨S8x2048x4, .i32⟩ : BufTy).Contents (Elt F)),
    unary main_values main_v46 (Host.negf : (⟨S8x2048x4, .f32⟩ : BufTy).Contents (Elt F) → (⟨S8x2048x4, .f32⟩ : BufTy).Contents (Elt F)),
    nullary main_cst_12 (constant S_ .f32 0x3F800000#32),
    unary main_cst_12 main_v47 (broadcastInDim S8x2048x4 ![] bcast_S_S8x2048x4 : (⟨S_, .f32⟩ : BufTy).Contents (Elt F) → (⟨S8x2048x4, .f32⟩ : BufTy).Contents (Elt F)),
    binary main_v47 main_v46 main_v48 (subf : (⟨S8x2048x4, .f32⟩ : BufTy).Contents (Elt F) → (⟨S8x2048x4, .f32⟩ : BufTy).Contents (Elt F) → (⟨S8x2048x4, .f32⟩ : BufTy).Contents (Elt F)),
    unary main_v48 main_v49 (Host.absf : (⟨S8x2048x4, .f32⟩ : BufTy).Contents (Elt F) → (⟨S8x2048x4, .f32⟩ : BufTy).Contents (Elt F)),
    nullary main_cst_13 (constant S_ .f32 0xFF800000#32),
    binary main_v49 main_cst_13 main_v50 ((fun x v => Host.reduce FloatOps.maximumf x v reducesTo_S8x2048x4_S8x2048_d2 h_S_) : (⟨S8x2048x4, .f32⟩ : BufTy).Contents (Elt F) → (⟨S_, .f32⟩ : BufTy).Contents (Elt F) → (⟨S8x2048, .f32⟩ : BufTy).Contents (Elt F)),
    unary main_v50 main_v51 (broadcastInDim S8x2048x1 ![0, 1] bcast_S8x2048_S8x2048x1_0_1 : (⟨S8x2048, .f32⟩ : BufTy).Contents (Elt F) → (⟨S8x2048x1, .f32⟩ : BufTy).Contents (Elt F)),
    unary main_v51 main_v52 (broadcastInDim S8x2048x4 ![0, 1, 2] bcast_S8x2048x1_S8x2048x4_0_1_2 : (⟨S8x2048x1, .f32⟩ : BufTy).Contents (Elt F) → (⟨S8x2048x4, .f32⟩ : BufTy).Contents (Elt F)),
    binary main_v49 main_v52 main_v53 (subf : (⟨S8x2048x4, .f32⟩ : BufTy).Contents (Elt F) → (⟨S8x2048x4, .f32⟩ : BufTy).Contents (Elt F) → (⟨S8x2048x4, .f32⟩ : BufTy).Contents (Elt F)),
    unary main_v53 main_v54 (Host.exp : (⟨S8x2048x4, .f32⟩ : BufTy).Contents (Elt F) → (⟨S8x2048x4, .f32⟩ : BufTy).Contents (Elt F)),
    nullary main_cst_14 (constant S_ .f32 0x00000000#32),
    binary main_v54 main_cst_14 main_v55 ((fun x v => Host.reduceAdd x v reducesTo_S8x2048x4_S8x2048_d2 h_S_) : (⟨S8x2048x4, .f32⟩ : BufTy).Contents (Elt F) → (⟨S_, .f32⟩ : BufTy).Contents (Elt F) → (⟨S8x2048, .f32⟩ : BufTy).Contents (Elt F)),
    unary main_v55 main_v56 (Host.log : (⟨S8x2048, .f32⟩ : BufTy).Contents (Elt F) → (⟨S8x2048, .f32⟩ : BufTy).Contents (Elt F)),
    binary main_v50 main_v56 main_v57 (addf : (⟨S8x2048, .f32⟩ : BufTy).Contents (Elt F) → (⟨S8x2048, .f32⟩ : BufTy).Contents (Elt F) → (⟨S8x2048, .f32⟩ : BufTy).Contents (Elt F)) ]

/-- Segment D2: the negated first-pass distances of the right rows. -/
abbrev segD2 : List (HloOp τ sig (Elt F)) :=
  [ nullary main_c_15 (constantI S_ 32 1#32),
    unary main_c_15 main_v58 (broadcastInDim S8x2048x2048 ![] bcast_S_S8x2048x2048 : (⟨S_, .i32⟩ : BufTy).Contents (Elt F) → (⟨S8x2048x2048, .i32⟩ : BufTy).Contents (Elt F)),
    binary main_v40 main_v58 main_v59 (cmpi .eq : (⟨S8x2048x2048, .i32⟩ : BufTy).Contents (Elt F) → (⟨S8x2048x2048, .i32⟩ : BufTy).Contents (Elt F) → (⟨S8x2048x2048, .i1⟩ : BufTy).Contents (Elt F)),
    nullary main_cst_16 (constant S_ .f32 0x7149F2CA#32),
    TRef.unary (TRef.of (T := ⟨S_, .f32⟩) main_cst_16) (TRef.of (T := ⟨S_, .f32⟩) main_call5_v0) id,
    TRef.unary (TRef.of (T := ⟨S_, .f32⟩) main_call5_v0) (TRef.of (T := ⟨S2048x2048, .f32⟩) main_call5_v1) (broadcastInDim S2048x2048 ![] bcast_S_S2048x2048),
    TRef.unary (TRef.of (T := ⟨S2048x2048, .f32⟩) main_call5_v1) (TRef.of (T := ⟨S8x2048x2048, .f32⟩) main_call5_v2) (broadcastInDim S8x2048x2048 ![1, 2] bcast_S2048x2048_S8x2048x2048_1_2),
    TRef.ternary (TRef.of (T := ⟨S8x2048x2048, .i1⟩) main_v59) (TRef.of (T := ⟨S8x2048x2048, .f32⟩) main_v33) (TRef.of (T := ⟨S8x2048x2048, .f32⟩) main_call5_v2) (TRef.of (T := ⟨S8x2048x2048, .f32⟩) main_v60) select,
    unary main_v60 main_v61 (Host.negf : (⟨S8x2048x2048, .f32⟩ : BufTy).Contents (Elt F) → (⟨S8x2048x2048, .f32⟩ : BufTy).Contents (Elt F)) ]

/-- Segment D3: the first-pass loss of the right rows, and the sum so far. -/
abbrev segD3 : List (HloOp τ sig (Elt F)) :=
  [ unary main_v61 main_values_17 ((fun x => (Host.topK S8x2048x4 2 (FloatOps.cmpfTotal .gt) x sliceFits_S8x2048x2048_S8x2048x4).1) : (⟨S8x2048x2048, .f32⟩ : BufTy).Contents (Elt F) → (⟨S8x2048x4, .f32⟩ : BufTy).Contents (Elt F)),
    unary main_v61 main_indices_18 ((fun x => (Host.topK S8x2048x4 2 (FloatOps.cmpfTotal .gt) x sliceFits_S8x2048x2048_S8x2048x4).2) : (⟨S8x2048x2048, .f32⟩ : BufTy).Contents (Elt F) → (⟨S8x2048x4, .i32⟩ : BufTy).Contents (Elt F)),
    unary main_values_17 main_v62 (Host.negf : (⟨S8x2048x4, .f32⟩ : BufTy).Contents (Elt F) → (⟨S8x2048x4, .f32⟩ : BufTy).Contents (Elt F)),
    nullary main_cst_19 (constant S_ .f32 0x3F800000#32),
    unary main_cst_19 main_v63 (broadcastInDim S8x2048x4 ![] bcast_S_S8x2048x4 : (⟨S_, .f32⟩ : BufTy).Contents (Elt F) → (⟨S8x2048x4, .f32⟩ : BufTy).Contents (Elt F)),
    binary main_v63 main_v62 main_v64 (subf : (⟨S8x2048x4, .f32⟩ : BufTy).Contents (Elt F) → (⟨S8x2048x4, .f32⟩ : BufTy).Contents (Elt F) → (⟨S8x2048x4, .f32⟩ : BufTy).Contents (Elt F)),
    unary main_v64 main_v65 (Host.absf : (⟨S8x2048x4, .f32⟩ : BufTy).Contents (Elt F) → (⟨S8x2048x4, .f32⟩ : BufTy).Contents (Elt F)),
    nullary main_cst_20 (constant S_ .f32 0xFF800000#32),
    binary main_v65 main_cst_20 main_v66 ((fun x v => Host.reduce FloatOps.maximumf x v reducesTo_S8x2048x4_S8x2048_d2 h_S_) : (⟨S8x2048x4, .f32⟩ : BufTy).Contents (Elt F) → (⟨S_, .f32⟩ : BufTy).Contents (Elt F) → (⟨S8x2048, .f32⟩ : BufTy).Contents (Elt F)),
    unary main_v66 main_v67 (broadcastInDim S8x2048x1 ![0, 1] bcast_S8x2048_S8x2048x1_0_1 : (⟨S8x2048, .f32⟩ : BufTy).Contents (Elt F) → (⟨S8x2048x1, .f32⟩ : BufTy).Contents (Elt F)),
    unary main_v67 main_v68 (broadcastInDim S8x2048x4 ![0, 1, 2] bcast_S8x2048x1_S8x2048x4_0_1_2 : (⟨S8x2048x1, .f32⟩ : BufTy).Contents (Elt F) → (⟨S8x2048x4, .f32⟩ : BufTy).Contents (Elt F)),
    binary main_v65 main_v68 main_v69 (subf : (⟨S8x2048x4, .f32⟩ : BufTy).Contents (Elt F) → (⟨S8x2048x4, .f32⟩ : BufTy).Contents (Elt F) → (⟨S8x2048x4, .f32⟩ : BufTy).Contents (Elt F)),
    unary main_v69 main_v70 (Host.exp : (⟨S8x2048x4, .f32⟩ : BufTy).Contents (Elt F) → (⟨S8x2048x4, .f32⟩ : BufTy).Contents (Elt F)),
    nullary main_cst_21 (constant S_ .f32 0x00000000#32),
    binary main_v70 main_cst_21 main_v71 ((fun x v => Host.reduceAdd x v reducesTo_S8x2048x4_S8x2048_d2 h_S_) : (⟨S8x2048x4, .f32⟩ : BufTy).Contents (Elt F) → (⟨S_, .f32⟩ : BufTy).Contents (Elt F) → (⟨S8x2048, .f32⟩ : BufTy).Contents (Elt F)),
    unary main_v71 main_v72 (Host.log : (⟨S8x2048, .f32⟩ : BufTy).Contents (Elt F) → (⟨S8x2048, .f32⟩ : BufTy).Contents (Elt F)),
    binary main_v66 main_v72 main_v73 (addf : (⟨S8x2048, .f32⟩ : BufTy).Contents (Elt F) → (⟨S8x2048, .f32⟩ : BufTy).Contents (Elt F) → (⟨S8x2048, .f32⟩ : BufTy).Contents (Elt F)),
    unary main_v41 main_v74 (broadcastInDim S1x2048 ![1] bcast_S2048_S1x2048_1 : (⟨S2048, .f32⟩ : BufTy).Contents (Elt F) → (⟨S1x2048, .f32⟩ : BufTy).Contents (Elt F)),
    unary main_v74 main_v75 (broadcastInDim S8x2048 ![0, 1] bcast_S1x2048_S8x2048_0_1 : (⟨S1x2048, .f32⟩ : BufTy).Contents (Elt F) → (⟨S8x2048, .f32⟩ : BufTy).Contents (Elt F)),
    binary main_v75 main_v57 main_v76 (addf : (⟨S8x2048, .f32⟩ : BufTy).Contents (Elt F) → (⟨S8x2048, .f32⟩ : BufTy).Contents (Elt F) → (⟨S8x2048, .f32⟩ : BufTy).Contents (Elt F)),
    binary main_v76 main_v73 main_v77 (addf : (⟨S8x2048, .f32⟩ : BufTy).Contents (Elt F) → (⟨S8x2048, .f32⟩ : BufTy).Contents (Elt F) → (⟨S8x2048, .f32⟩ : BufTy).Contents (Elt F)) ]

/-- Segment E0: the negated second-pass distances of the left rows. -/
abbrev segE0 : List (HloOp τ sig (Elt F)) :=
  [ nullary main_c_22 (constantI S_ 32 2#32),
    unary main_c_22 main_v78 (broadcastInDim S8x2048x2048 ![] bcast_S_S8x2048x2048 : (⟨S_, .i32⟩ : BufTy).Contents (Elt F) → (⟨S8x2048x2048, .i32⟩ : BufTy).Contents (Elt F)),
    binary main_arg1 main_v78 main_v79 (cmpi .eq : (⟨S8x2048x2048, .i32⟩ : BufTy).Contents (Elt F) → (⟨S8x2048x2048, .i32⟩ : BufTy).Contents (Elt F) → (⟨S8x2048x2048, .i1⟩ : BufTy).Contents (Elt F)),
    nullary main_cst_23 (constant S_ .f32 0x7149F2CA#32),
    TRef.unary (TRef.of (T := ⟨S_, .f32⟩) main_cst_23) (TRef.of (T := ⟨S_, .f32⟩) main_call6_v0) id,
    TRef.unary (TRef.of (T := ⟨S_, .f32⟩) main_call6_v0) (TRef.of (T := ⟨S2048x2048, .f32⟩) main_call6_v1) (broadcastInDim S2048x2048 ![] bcast_S_S2048x2048),
    TRef.unary (TRef.of (T := ⟨S2048x2048, .f32⟩) main_call6_v1) (TRef.of (T := ⟨S8x2048x2048, .f32⟩) main_call6_v2) (broadcastInDim S8x2048x2048 ![1, 2] bcast_S2048x2048_S8x2048x2048_1_2),
    TRef.ternary (TRef.of (T := ⟨S8x2048x2048, .i1⟩) main_v79) (TRef.of (T := ⟨S8x2048x2048, .f32⟩) main_v11) (TRef.of (T := ⟨S8x2048x2048, .f32⟩) main_call6_v2) (TRef.of (T := ⟨S8x2048x2048, .f32⟩) main_v80) select,
    unary main_v80 main_v81 (Host.negf : (⟨S8x2048x2048, .f32⟩ : BufTy).Contents (Elt F) → (⟨S8x2048x2048, .f32⟩ : BufTy).Contents (Elt F)) ]

/-- Segment E1: the second-pass deviations of the left rows and their maxima. -/
abbrev segE1 : List (HloOp τ sig (Elt F)) :=
  [ unary main_v81 main_values_24 ((fun x => (Host.topK S8x2048x3 2 (FloatOps.cmpfTotal .gt) x sliceFits_S8x2048x2048_S8x2048x3).1) : (⟨S8x2048x2048, .f32⟩ : BufTy).Contents (Elt F) → (⟨S8x2048x3, .f32⟩ : BufTy).Contents (Elt F)),
    unary main_v81 main_indices_25 ((fun x => (Host.topK S8x2048x3 2 (FloatOps.cmpfTotal .gt) x sliceFits_S8x2048x2048_S8x2048x3).2) : (⟨S8x2048x2048, .f32⟩ : BufTy).Contents (Elt F) → (⟨S8x2048x3, .i32⟩ : BufTy).Contents (Elt F)),
    unary main_values_24 main_v82 (Host.negf : (⟨S8x2048x3, .f32⟩ : BufTy).Contents (Elt F) → (⟨S8x2048x3, .f32⟩ : BufTy).Contents (Elt F)),
    nullary main_cst_26 (constant S_ .f32 0x40000000#32),
    unary main_cst_26 main_v83 (broadcastInDim S8x2048x3 ![] bcast_S_S8x2048x3 : (⟨S_, .f32⟩ : BufTy).Contents (Elt F) → (⟨S8x2048x3, .f32⟩ : BufTy).Contents (Elt F)),
    binary main_v83 main_v82 main_v84 (subf : (⟨S8x2048x3, .f32⟩ : BufTy).Contents (Elt F) → (⟨S8x2048x3, .f32⟩ : BufTy).Contents (Elt F) → (⟨S8x2048x3, .f32⟩ : BufTy).Contents (Elt F)),
    unary main_v84 main_v85 (Host.absf : (⟨S8x2048x3, .f32⟩ : BufTy).Contents (Elt F) → (⟨S8x2048x3, .f32⟩ : BufTy).Contents (Elt F)),
    nullary main_cst_27 (constant S_ .f32 0xFF800000#32),
    binary main_v85 main_cst_27 main_v86 ((fun x v => Host.reduce FloatOps.maximumf x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    unary main_v86 main_v87 (broadcastInDim S8x2048x1 ![0, 1] bcast_S8x2048_S8x2048x1_0_1 : (⟨S8x2048, .f32⟩ : BufTy).Contents (Elt F) → (⟨S8x2048x1, .f32⟩ : BufTy).Contents (Elt F)) ]

/-- Segment E2: the second-pass loss of the left rows. -/
abbrev segE2 : List (HloOp τ sig (Elt F)) :=
  [ unary main_v87 main_v88 (broadcastInDim S8x2048x3 ![0, 1, 2] bcast_S8x2048x1_S8x2048x3_0_1_2 : (⟨S8x2048x1, .f32⟩ : BufTy).Contents (Elt F) → (⟨S8x2048x3, .f32⟩ : BufTy).Contents (Elt F)),
    binary main_v85 main_v88 main_v89 (subf : (⟨S8x2048x3, .f32⟩ : BufTy).Contents (Elt F) → (⟨S8x2048x3, .f32⟩ : BufTy).Contents (Elt F) → (⟨S8x2048x3, .f32⟩ : BufTy).Contents (Elt F)),
    unary main_v89 main_v90 (Host.exp : (⟨S8x2048x3, .f32⟩ : BufTy).Contents (Elt F) → (⟨S8x2048x3, .f32⟩ : BufTy).Contents (Elt F)),
    nullary main_cst_28 (constant S_ .f32 0x00000000#32),
    binary main_v90 main_cst_28 main_v91 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    unary main_v91 main_v92 (Host.log : (⟨S8x2048, .f32⟩ : BufTy).Contents (Elt F) → (⟨S8x2048, .f32⟩ : BufTy).Contents (Elt F)),
    binary main_v86 main_v92 main_v93 (addf : (⟨S8x2048, .f32⟩ : BufTy).Contents (Elt F) → (⟨S8x2048, .f32⟩ : BufTy).Contents (Elt F) → (⟨S8x2048, .f32⟩ : BufTy).Contents (Elt F)) ]

/-- Segment E3: the negated second-pass distances of the right rows. -/
abbrev segE3 : List (HloOp τ sig (Elt F)) :=
  [ nullary main_c_29 (constantI S_ 32 2#32),
    unary main_c_29 main_v94 (broadcastInDim S8x2048x2048 ![] bcast_S_S8x2048x2048 : (⟨S_, .i32⟩ : BufTy).Contents (Elt F) → (⟨S8x2048x2048, .i32⟩ : BufTy).Contents (Elt F)),
    binary main_v40 main_v94 main_v95 (cmpi .eq : (⟨S8x2048x2048, .i32⟩ : BufTy).Contents (Elt F) → (⟨S8x2048x2048, .i32⟩ : BufTy).Contents (Elt F) → (⟨S8x2048x2048, .i1⟩ : BufTy).Contents (Elt F)),
    nullary main_cst_30 (constant S_ .f32 0x7149F2CA#32),
    TRef.unary (TRef.of (T := ⟨S_, .f32⟩) main_cst_30) (TRef.of (T := ⟨S_, .f32⟩) main_call7_v0) id,
    TRef.unary (TRef.of (T := ⟨S_, .f32⟩) main_call7_v0) (TRef.of (T := ⟨S2048x2048, .f32⟩) main_call7_v1) (broadcastInDim S2048x2048 ![] bcast_S_S2048x2048),
    TRef.unary (TRef.of (T := ⟨S2048x2048, .f32⟩) main_call7_v1) (TRef.of (T := ⟨S8x2048x2048, .f32⟩) main_call7_v2) (broadcastInDim S8x2048x2048 ![1, 2] bcast_S2048x2048_S8x2048x2048_1_2),
    TRef.ternary (TRef.of (T := ⟨S8x2048x2048, .i1⟩) main_v95) (TRef.of (T := ⟨S8x2048x2048, .f32⟩) main_v33) (TRef.of (T := ⟨S8x2048x2048, .f32⟩) main_call7_v2) (TRef.of (T := ⟨S8x2048x2048, .f32⟩) main_v96) select,
    unary main_v96 main_v97 (Host.negf : (⟨S8x2048x2048, .f32⟩ : BufTy).Contents (Elt F) → (⟨S8x2048x2048, .f32⟩ : BufTy).Contents (Elt F)) ]

/-- Segment E4: the second-pass loss of the right rows, and the sum so far. -/
abbrev segE4 : List (HloOp τ sig (Elt F)) :=
  [ unary main_v97 main_values_31 ((fun x => (Host.topK S8x2048x3 2 (FloatOps.cmpfTotal .gt) x sliceFits_S8x2048x2048_S8x2048x3).1) : (⟨S8x2048x2048, .f32⟩ : BufTy).Contents (Elt F) → (⟨S8x2048x3, .f32⟩ : BufTy).Contents (Elt F)),
    unary main_v97 main_indices_32 ((fun x => (Host.topK S8x2048x3 2 (FloatOps.cmpfTotal .gt) x sliceFits_S8x2048x2048_S8x2048x3).2) : (⟨S8x2048x2048, .f32⟩ : BufTy).Contents (Elt F) → (⟨S8x2048x3, .i32⟩ : BufTy).Contents (Elt F)),
    unary main_values_31 main_v98 (Host.negf : (⟨S8x2048x3, .f32⟩ : BufTy).Contents (Elt F) → (⟨S8x2048x3, .f32⟩ : BufTy).Contents (Elt F)),
    nullary main_cst_33 (constant S_ .f32 0x40000000#32),
    unary main_cst_33 main_v99 (broadcastInDim S8x2048x3 ![] bcast_S_S8x2048x3 : (⟨S_, .f32⟩ : BufTy).Contents (Elt F) → (⟨S8x2048x3, .f32⟩ : BufTy).Contents (Elt F)),
    binary main_v99 main_v98 main_v100 (subf : (⟨S8x2048x3, .f32⟩ : BufTy).Contents (Elt F) → (⟨S8x2048x3, .f32⟩ : BufTy).Contents (Elt F) → (⟨S8x2048x3, .f32⟩ : BufTy).Contents (Elt F)),
    unary main_v100 main_v101 (Host.absf : (⟨S8x2048x3, .f32⟩ : BufTy).Contents (Elt F) → (⟨S8x2048x3, .f32⟩ : BufTy).Contents (Elt F)),
    nullary main_cst_34 (constant S_ .f32 0xFF800000#32),
    binary main_v101 main_cst_34 main_v102 ((fun x v => Host.reduce FloatOps.maximumf x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    unary main_v102 main_v103 (broadcastInDim S8x2048x1 ![0, 1] bcast_S8x2048_S8x2048x1_0_1 : (⟨S8x2048, .f32⟩ : BufTy).Contents (Elt F) → (⟨S8x2048x1, .f32⟩ : BufTy).Contents (Elt F)),
    unary main_v103 main_v104 (broadcastInDim S8x2048x3 ![0, 1, 2] bcast_S8x2048x1_S8x2048x3_0_1_2 : (⟨S8x2048x1, .f32⟩ : BufTy).Contents (Elt F) → (⟨S8x2048x3, .f32⟩ : BufTy).Contents (Elt F)),
    binary main_v101 main_v104 main_v105 (subf : (⟨S8x2048x3, .f32⟩ : BufTy).Contents (Elt F) → (⟨S8x2048x3, .f32⟩ : BufTy).Contents (Elt F) → (⟨S8x2048x3, .f32⟩ : BufTy).Contents (Elt F)),
    unary main_v105 main_v106 (Host.exp : (⟨S8x2048x3, .f32⟩ : BufTy).Contents (Elt F) → (⟨S8x2048x3, .f32⟩ : BufTy).Contents (Elt F)),
    nullary main_cst_35 (constant S_ .f32 0x00000000#32),
    binary main_v106 main_cst_35 main_v107 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    unary main_v107 main_v108 (Host.log : (⟨S8x2048, .f32⟩ : BufTy).Contents (Elt F) → (⟨S8x2048, .f32⟩ : BufTy).Contents (Elt F)),
    binary main_v102 main_v108 main_v109 (addf : (⟨S8x2048, .f32⟩ : BufTy).Contents (Elt F) → (⟨S8x2048, .f32⟩ : BufTy).Contents (Elt F) → (⟨S8x2048, .f32⟩ : BufTy).Contents (Elt F)),
    binary main_v77 main_v93 main_v110 (addf : (⟨S8x2048, .f32⟩ : BufTy).Contents (Elt F) → (⟨S8x2048, .f32⟩ : BufTy).Contents (Elt F) → (⟨S8x2048, .f32⟩ : BufTy).Contents (Elt F)),
    binary main_v110 main_v109 main_v111 (addf : (⟨S8x2048, .f32⟩ : BufTy).Contents (Elt F) → (⟨S8x2048, .f32⟩ : BufTy).Contents (Elt F) → (⟨S8x2048, .f32⟩ : BufTy).Contents (Elt F)) ]

/-- Segment F: the squared positive part of the loss, averaged over rows and then over batches. -/
abbrev segF : List (HloOp τ sig (Elt F)) :=
  [ binary main_v111 main_v18 main_v112 (addf : (⟨S8x2048, .f32⟩ : BufTy).Contents (Elt F) → (⟨S8x2048, .f32⟩ : BufTy).Contents (Elt F) → (⟨S8x2048, .f32⟩ : BufTy).Contents (Elt F)),
    nullary main_cst_36 (constant S_ .f32 0x00000000#32),
    unary main_cst_36 main_v113 (broadcastInDim S8x2048 ![] bcast_S_S8x2048 : (⟨S_, .f32⟩ : BufTy).Contents (Elt F) → (⟨S8x2048, .f32⟩ : BufTy).Contents (Elt F)),
    binary main_v112 main_v113 main_v114 (maximumf : (⟨S8x2048, .f32⟩ : BufTy).Contents (Elt F) → (⟨S8x2048, .f32⟩ : BufTy).Contents (Elt F) → (⟨S8x2048, .f32⟩ : BufTy).Contents (Elt F)),
    binary main_v114 main_v114 main_v115 (mulf : (⟨S8x2048, .f32⟩ : BufTy).Contents (Elt F) → (⟨S8x2048, .f32⟩ : BufTy).Contents (Elt F) → (⟨S8x2048, .f32⟩ : BufTy).Contents (Elt F)),
    nullary main_cst_37 (constant S_ .f32 0x00000000#32),
    binary main_v115 main_cst_37 main_v116 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    nullary main_cst_38 (constant S_ .f32 0x45000000#32),
    unary main_cst_38 main_v117 (broadcastInDim S8 ![] bcast_S_S8 : (⟨S_, .f32⟩ : BufTy).Contents (Elt F) → (⟨S8, .f32⟩ : BufTy).Contents (Elt F)),
    binary main_v116 main_v117 main_v118 (Host.divf : (⟨S8, .f32⟩ : BufTy).Contents (Elt F) → (⟨S8, .f32⟩ : BufTy).Contents (Elt F) → (⟨S8, .f32⟩ : BufTy).Contents (Elt F)),
    nullary main_cst_39 (constant S_ .f32 0x00000000#32),
    binary main_v118 main_cst_39 main_v119 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_40 (constant S_ .f32 0x41000000#32),
    binary main_v119 main_cst_40 main_v120 (Host.divf : (⟨S_, .f32⟩ : BufTy).Contents (Elt F) → (⟨S_, .f32⟩ : BufTy).Contents (Elt F) → (⟨S_, .f32⟩ : BufTy).Contents (Elt F)) ]

/-- The operations of the program's window 0. -/
def ops0 : List (HloOp τ sig (Elt F)) :=
  segA ++ (segB ++ (segC ++ (segD0)))

/-- The operations of the program's window 1. -/
def ops1 : List (HloOp τ sig (Elt F)) :=
  segD1 ++ (segD2 ++ (segD3 ++ (segE0 ++ (segE1))))

/-- The operations of the program's window 2. -/
def ops2 : List (HloOp τ sig (Elt F)) :=
  segE2 ++ (segE3 ++ (segE4 ++ (segF)))

/-- All the operations, in order. -/
def ops : List (HloOp τ sig (Elt F)) := ops0 ++ (ops1 ++ ops2)

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
/-- The program is its operations in sequence. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem segA_sub : (segA : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., ternary_bufs_sub .., nullary_bufs_sub .., binary_bufs_sub ..⟩

set_option maxRecDepth 8192 in
theorem segA_fresh : (segA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- What segment A writes. -/
abbrev segA_W : List (Ref sig .tc) := [main_v0, main_cst, main_v1, main_v2, main_v3, main_v4, main_v5, main_v6, main_v7, main_v8, main_cst_0, main_v9, main_v10, main_v11, main_c, main_v12, main_v13, main_cst_1, main_v14, main_v15, main_v16, main_cst_2, main_call0_v0, main_call0_v1, main_call0_v2, main_v17, main_cst_3, main_v18]

set_option maxRecDepth 8192 in
theorem segA_writes : (segA : List (HloOp τ sig (Elt F))).Forall fun op => op.writes ⊆ (segA_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A buffer segment A does not write keeps its contents through it. -/
theorem segA_keep (V : Valuation τ sig (Elt F)) (r : Ref sig .tc) (h : r ∉ segA_W) :
    after segA V (no_index (Proc.devRef .tc r)) = V (Proc.devRef .tc r) :=
  after_of_writes_sub segA V segA_writes h

set_option maxRecDepth 8192 in
theorem segB_sub : (segB : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub ..⟩

set_option maxRecDepth 8192 in
theorem segB_fresh : (segB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What segment B writes. -/
abbrev segB_W : List (Ref sig .tc) := [main_call1_v0, main_call1_cst, main_call1_c, main_call1_v1_0, main_v19, main_v20, main_call2_call0_c, main_call2_call0_v0, main_v21, main_v22, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v23, main_v24, main_c_4, main_v25, main_v26]

set_option maxRecDepth 8192 in
theorem segB_writes : (segB : List (HloOp τ sig (Elt F))).Forall fun op => op.writes ⊆ (segB_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A buffer segment B does not write keeps its contents through it. -/
theorem segB_keep (V : Valuation τ sig (Elt F)) (r : Ref sig .tc) (h : r ∉ segB_W) :
    after segB V (no_index (Proc.devRef .tc r)) = V (Proc.devRef .tc r) :=
  after_of_writes_sub segB V segB_writes h

set_option maxRecDepth 8192 in
theorem segC_sub : (segC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

set_option maxRecDepth 8192 in
theorem segC_fresh : (segC : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- What segment C writes. -/
abbrev segC_W : List (Ref sig .tc) := [main_c_5, main_v27, main_v28, main_c_6, main_v29, main_v30, main_v31, main_v32, main_v33, main_c_7, main_v34, main_v35, main_c_8, main_v36, main_v37, main_v38, main_v39, main_v40, main_cst_9, main_v41]

set_option maxRecDepth 8192 in
theorem segC_writes : (segC : List (HloOp τ sig (Elt F))).Forall fun op => op.writes ⊆ (segC_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_⟩ <;> exact List.mem_map_of_mem (by decide)

/-- A buffer segment C does not write keeps its contents through it. -/
theorem segC_keep (V : Valuation τ sig (Elt F)) (r : Ref sig .tc) (h : r ∉ segC_W) :
    after segC V (no_index (Proc.devRef .tc r)) = V (Proc.devRef .tc r) :=
  after_of_writes_sub segC V segC_writes h

set_option maxRecDepth 8192 in
theorem segD0_sub : (segD0 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., unary_bufs_sub ..⟩

set_option maxRecDepth 8192 in
theorem segD0_fresh : (segD0 : List (HloOp τ sig (Elt F))).Forall fun op => op.fresh = ∅ :=
  ⟨rfl, rfl, rfl, rfl, rfl, rfl, rfl, rfl, rfl⟩

/-- What segment D0 writes. -/
abbrev segD0_W : List (Ref sig .tc) := [main_c_10, main_v42, main_v43, main_cst_11, main_call4_v0, main_call4_v1, main_call4_v2, main_v44, main_v45]

set_option maxRecDepth 8192 in
theorem segD0_writes : (segD0 : List (HloOp τ sig (Elt F))).Forall fun op => op.writes ⊆ (segD0_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)

/-- A buffer segment D0 does not write keeps its contents through it. -/
theorem segD0_keep (V : Valuation τ sig (Elt F)) (r : Ref sig .tc) (h : r ∉ segD0_W) :
    after segD0 V (no_index (Proc.devRef .tc r)) = V (Proc.devRef .tc r) :=
  after_of_writes_sub segD0 V segD0_writes h

set_option maxRecDepth 8192 in
theorem segD1_sub : (segD1 : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., binary_bufs_sub ..⟩

set_option maxRecDepth 8192 in
theorem segD1_fresh : (segD1 : List (HloOp τ sig (Elt F))).Forall fun op => op.fresh = ∅ :=
  ⟨rfl, rfl, rfl, rfl, rfl, rfl, rfl, rfl, rfl, rfl, rfl, rfl, rfl, rfl, rfl, rfl, rfl⟩

/-- What segment D1 writes. -/
abbrev segD1_W : List (Ref sig .tc) := [main_values, main_indices, main_v46, main_cst_12, main_v47, main_v48, main_v49, main_cst_13, main_v50, main_v51, main_v52, main_v53, main_v54, main_cst_14, main_v55, main_v56, main_v57]

set_option maxRecDepth 8192 in
theorem segD1_writes : (segD1 : List (HloOp τ sig (Elt F))).Forall fun op => op.writes ⊆ (segD1_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_⟩ <;> exact List.mem_map_of_mem (by decide)

/-- A buffer segment D1 does not write keeps its contents through it. -/
theorem segD1_keep (V : Valuation τ sig (Elt F)) (r : Ref sig .tc) (h : r ∉ segD1_W) :
    after segD1 V (no_index (Proc.devRef .tc r)) = V (Proc.devRef .tc r) :=
  after_of_writes_sub segD1 V segD1_writes h

set_option maxRecDepth 8192 in
theorem segD2_sub : (segD2 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., unary_bufs_sub ..⟩

set_option maxRecDepth 8192 in
theorem segD2_fresh : (segD2 : List (HloOp τ sig (Elt F))).Forall fun op => op.fresh = ∅ :=
  ⟨rfl, rfl, rfl, rfl, rfl, rfl, rfl, rfl, rfl⟩

/-- What segment D2 writes. -/
abbrev segD2_W : List (Ref sig .tc) := [main_c_15, main_v58, main_v59, main_cst_16, main_call5_v0, main_call5_v1, main_call5_v2, main_v60, main_v61]

set_option maxRecDepth 8192 in
theorem segD2_writes : (segD2 : List (HloOp τ sig (Elt F))).Forall fun op => op.writes ⊆ (segD2_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)

/-- A buffer segment D2 does not write keeps its contents through it. -/
theorem segD2_keep (V : Valuation τ sig (Elt F)) (r : Ref sig .tc) (h : r ∉ segD2_W) :
    after segD2 V (no_index (Proc.devRef .tc r)) = V (Proc.devRef .tc r) :=
  after_of_writes_sub segD2 V segD2_writes h

set_option maxRecDepth 8192 in
theorem segD3_sub : (segD3 : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., unary_bufs_sub .., binary_bufs_sub .., binary_bufs_sub ..⟩

set_option maxRecDepth 8192 in
theorem segD3_fresh : (segD3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- What segment D3 writes. -/
abbrev segD3_W : List (Ref sig .tc) := [main_values_17, main_indices_18, main_v62, main_cst_19, main_v63, main_v64, main_v65, main_cst_20, main_v66, main_v67, main_v68, main_v69, main_v70, main_cst_21, main_v71, main_v72, main_v73, main_v74, main_v75, main_v76, main_v77]

set_option maxRecDepth 8192 in
theorem segD3_writes : (segD3 : List (HloOp τ sig (Elt F))).Forall fun op => op.writes ⊆ (segD3_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)

/-- A buffer segment D3 does not write keeps its contents through it. -/
theorem segD3_keep (V : Valuation τ sig (Elt F)) (r : Ref sig .tc) (h : r ∉ segD3_W) :
    after segD3 V (no_index (Proc.devRef .tc r)) = V (Proc.devRef .tc r) :=
  after_of_writes_sub segD3 V segD3_writes h

set_option maxRecDepth 8192 in
theorem segE0_sub : (segE0 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., unary_bufs_sub ..⟩

set_option maxRecDepth 8192 in
theorem segE0_fresh : (segE0 : List (HloOp τ sig (Elt F))).Forall fun op => op.fresh = ∅ :=
  ⟨rfl, rfl, rfl, rfl, rfl, rfl, rfl, rfl, rfl⟩

/-- What segment E0 writes. -/
abbrev segE0_W : List (Ref sig .tc) := [main_c_22, main_v78, main_v79, main_cst_23, main_call6_v0, main_call6_v1, main_call6_v2, main_v80, main_v81]

set_option maxRecDepth 8192 in
theorem segE0_writes : (segE0 : List (HloOp τ sig (Elt F))).Forall fun op => op.writes ⊆ (segE0_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)

/-- A buffer segment E0 does not write keeps its contents through it. -/
theorem segE0_keep (V : Valuation τ sig (Elt F)) (r : Ref sig .tc) (h : r ∉ segE0_W) :
    after segE0 V (no_index (Proc.devRef .tc r)) = V (Proc.devRef .tc r) :=
  after_of_writes_sub segE0 V segE0_writes h

set_option maxRecDepth 8192 in
theorem segE1_sub : (segE1 : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., nullary_bufs_sub .., binary_bufs_sub .., unary_bufs_sub ..⟩

set_option maxRecDepth 8192 in
theorem segE1_fresh : (segE1 : List (HloOp τ sig (Elt F))).Forall fun op => op.fresh = ∅ :=
  ⟨rfl, rfl, rfl, rfl, rfl, rfl, rfl, rfl, rfl, rfl⟩

/-- What segment E1 writes. -/
abbrev segE1_W : List (Ref sig .tc) := [main_values_24, main_indices_25, main_v82, main_cst_26, main_v83, main_v84, main_v85, main_cst_27, main_v86, main_v87]

set_option maxRecDepth 8192 in
theorem segE1_writes : (segE1 : List (HloOp τ sig (Elt F))).Forall fun op => op.writes ⊆ (segE1_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_⟩ <;> exact List.mem_map_of_mem (by decide)

/-- A buffer segment E1 does not write keeps its contents through it. -/
theorem segE1_keep (V : Valuation τ sig (Elt F)) (r : Ref sig .tc) (h : r ∉ segE1_W) :
    after segE1 V (no_index (Proc.devRef .tc r)) = V (Proc.devRef .tc r) :=
  after_of_writes_sub segE1 V segE1_writes h

set_option maxRecDepth 8192 in
theorem segE2_sub : (segE2 : List (HloOp τ sig (Elt F))).Forall fun op => op.bufs ⊆ tcRefs τ sig :=
  ⟨unary_bufs_sub .., binary_bufs_sub .., unary_bufs_sub .., nullary_bufs_sub .., binary_bufs_sub .., unary_bufs_sub .., binary_bufs_sub ..⟩

set_option maxRecDepth 8192 in
theorem segE2_fresh : (segE2 : List (HloOp τ sig (Elt F))).Forall fun op => op.fresh = ∅ :=
  ⟨rfl, rfl, rfl, rfl, rfl, rfl, rfl⟩

/-- What segment E2 writes. -/
abbrev segE2_W : List (Ref sig .tc) := [main_v88, main_v89, main_v90, main_cst_28, main_v91, main_v92, main_v93]

set_option maxRecDepth 8192 in
theorem segE2_writes : (segE2 : List (HloOp τ sig (Elt F))).Forall fun op => op.writes ⊆ (segE2_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_⟩ <;> exact List.mem_map_of_mem (by decide)

/-- A buffer segment E2 does not write keeps its contents through it. -/
theorem segE2_keep (V : Valuation τ sig (Elt F)) (r : Ref sig .tc) (h : r ∉ segE2_W) :
    after segE2 V (no_index (Proc.devRef .tc r)) = V (Proc.devRef .tc r) :=
  after_of_writes_sub segE2 V segE2_writes h

set_option maxRecDepth 8192 in
theorem segE3_sub : (segE3 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., unary_bufs_sub ..⟩

set_option maxRecDepth 8192 in
theorem segE3_fresh : (segE3 : List (HloOp τ sig (Elt F))).Forall fun op => op.fresh = ∅ :=
  ⟨rfl, rfl, rfl, rfl, rfl, rfl, rfl, rfl, rfl⟩

/-- What segment E3 writes. -/
abbrev segE3_W : List (Ref sig .tc) := [main_c_29, main_v94, main_v95, main_cst_30, main_call7_v0, main_call7_v1, main_call7_v2, main_v96, main_v97]

set_option maxRecDepth 8192 in
theorem segE3_writes : (segE3 : List (HloOp τ sig (Elt F))).Forall fun op => op.writes ⊆ (segE3_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)

/-- A buffer segment E3 does not write keeps its contents through it. -/
theorem segE3_keep (V : Valuation τ sig (Elt F)) (r : Ref sig .tc) (h : r ∉ segE3_W) :
    after segE3 V (no_index (Proc.devRef .tc r)) = V (Proc.devRef .tc r) :=
  after_of_writes_sub segE3 V segE3_writes h

set_option maxRecDepth 8192 in
theorem segE4_sub : (segE4 : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., binary_bufs_sub .., binary_bufs_sub .., binary_bufs_sub ..⟩

set_option maxRecDepth 8192 in
theorem segE4_fresh : (segE4 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- What segment E4 writes. -/
abbrev segE4_W : List (Ref sig .tc) := [main_values_31, main_indices_32, main_v98, main_cst_33, main_v99, main_v100, main_v101, main_cst_34, main_v102, main_v103, main_v104, main_v105, main_v106, main_cst_35, main_v107, main_v108, main_v109, main_v110, main_v111]

set_option maxRecDepth 8192 in
theorem segE4_writes : (segE4 : List (HloOp τ sig (Elt F))).Forall fun op => op.writes ⊆ (segE4_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)

/-- A buffer segment E4 does not write keeps its contents through it. -/
theorem segE4_keep (V : Valuation τ sig (Elt F)) (r : Ref sig .tc) (h : r ∉ segE4_W) :
    after segE4 V (no_index (Proc.devRef .tc r)) = V (Proc.devRef .tc r) :=
  after_of_writes_sub segE4 V segE4_writes h

set_option maxRecDepth 8192 in
theorem segF_sub : (segF : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub ..⟩

set_option maxRecDepth 8192 in
theorem segF_fresh : (segF : List (HloOp τ sig (Elt F))).Forall fun op => op.fresh = ∅ :=
  ⟨rfl, rfl, rfl, rfl, rfl, rfl, rfl, rfl, rfl, rfl, rfl, rfl, rfl, rfl⟩

/-- What segment F writes. -/
abbrev segF_W : List (Ref sig .tc) := [main_v112, main_cst_36, main_v113, main_v114, main_v115, main_cst_37, main_v116, main_cst_38, main_v117, main_v118, main_cst_39, main_v119, main_cst_40, main_v120]

set_option maxRecDepth 8192 in
theorem segF_writes : (segF : List (HloOp τ sig (Elt F))).Forall fun op => op.writes ⊆ (segF_W.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_⟩ <;> exact List.mem_map_of_mem (by decide)

/-- A buffer segment F does not write keeps its contents through it. -/
theorem segF_keep (V : Valuation τ sig (Elt F)) (r : Ref sig .tc) (h : r ∉ segF_W) :
    after segF V (no_index (Proc.devRef .tc r)) = V (Proc.devRef .tc r) :=
  after_of_writes_sub segF V segF_writes h

theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h | h | h | h | h | h | h
    exacts [List.forall_iff_forall_mem.mp segA_sub op h, List.forall_iff_forall_mem.mp segB_sub op h, List.forall_iff_forall_mem.mp segC_sub op h, List.forall_iff_forall_mem.mp segD0_sub op h, List.forall_iff_forall_mem.mp segD1_sub op h, List.forall_iff_forall_mem.mp segD2_sub op h, List.forall_iff_forall_mem.mp segD3_sub op h, List.forall_iff_forall_mem.mp segE0_sub op h, List.forall_iff_forall_mem.mp segE1_sub op h, List.forall_iff_forall_mem.mp segE2_sub op h, List.forall_iff_forall_mem.mp segE3_sub op h, List.forall_iff_forall_mem.mp segE4_sub op h, List.forall_iff_forall_mem.mp segF_sub op h]

theorem ops_fresh : (ops : List (HloOp τ sig (Elt F))).Forall fun op => op.fresh = ∅ :=
  List.forall_iff_forall_mem.mpr fun op h => by
    simp only [ops, ops0, ops1, ops2, List.mem_append, or_assoc] at h
    rcases h with h | h | h | h | h | h | h | h | h | h | h | h | h
    exacts [List.forall_iff_forall_mem.mp segA_fresh op h, List.forall_iff_forall_mem.mp segB_fresh op h, List.forall_iff_forall_mem.mp segC_fresh op h, List.forall_iff_forall_mem.mp segD0_fresh op h, List.forall_iff_forall_mem.mp segD1_fresh op h, List.forall_iff_forall_mem.mp segD2_fresh op h, List.forall_iff_forall_mem.mp segD3_fresh op h, List.forall_iff_forall_mem.mp segE0_fresh op h, List.forall_iff_forall_mem.mp segE1_fresh op h, List.forall_iff_forall_mem.mp segE2_fresh op h, List.forall_iff_forall_mem.mp segE3_fresh op h, List.forall_iff_forall_mem.mp segE4_fresh op h, List.forall_iff_forall_mem.mp segF_fresh op h]

/-- The contents after every segment. -/
def final (V : Valuation τ sig (Elt F)) : Valuation τ sig (Elt F) :=
  after segF (after segE4 (after segE3 (after segE2 (after segE1 (after segE0 (after segD3 (after segD2 (after segD1 (after segD0 (after segC (after segB (after segA V))))))))))))

theorem after_ops (V : Valuation τ sig (Elt F)) : after ops V = final V := by
  simp only [ops, ops0, ops1, ops2, after_append, final]

set_option maxRecDepth 8192 in
/-- Every weakly fair execution ends with the result at what the operations compute and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = final (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq (fun _ => ops_sub) m ρ
      fun _ => List.forall_iff_forall_mem.mp ops_fresh)

end Cert.Proof.Ref

end
-- ==== Proof.RefRead.lean ====
/-
  What each segment of the reference computes, as named functions of the buffers it reads.
-/
module

public import proofs.«01_k».proof.Proof.RefOps

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- A tensor's contents. -/
abbrev V (F : FTy → Type) (s : Shape) (e : EltTy) : Type := (⟨s, e⟩ : BufTy).Contents (Elt F)

/-- The squared norms of the rows, a column per batch. -/
def sqs (x : V F S8x2048x32 .f32) : V F S8x2048x1 .f32 :=
  broadcastInDim S8x2048x1 ![0, 1] bcast_S8x2048_S8x2048x1_0_1
    (Host.reduceAdd (mulf x x) (constant S_ .f32 0x00000000#32) reducesTo_S8x2048x32_S8x2048_d2 h_S_)

/-- The squared distances between the rows of each batch. -/
def dist (x : V F S8x2048x32 .f32) : V F S8x2048x2048 .f32 :=
  subf (addf (broadcastInDim S8x2048x2048 ![0, 1, 2] bcast_S8x2048x1_S8x2048x2048_0_1_2 (sqs x))
      (broadcastInDim S8x2048x2048 ![0, 1, 2] bcast_S8x1x2048_S8x2048x2048_0_1_2
        (transpose S8x1x2048 [0, 2, 1] (sqs x) transposes_S8x2048x1_S8x1x2048_0_2_1)))
    (mulf (broadcastInDim S8x2048x2048 ![] bcast_S_S8x2048x2048 (constant S_ .f32 0x40000000#32))
      (Host.dotGeneral dot_S8x2048x32_S8x32x2048_S8x2048x2048_2_1_1_2_0_0 none x
        (transpose S8x32x2048 [0, 2, 1] x transposes_S8x2048x32_S8x32x2048_0_2_1)))

/-- Where the label is zero and the distance positive. -/
def mask (lab : V F S8x2048x2048 .i32) (d : V F S8x2048x2048 .f32) : V F S8x2048x2048 .i1 :=
  andi (cmpi .eq lab (broadcastInDim S8x2048x2048 ![] bcast_S_S8x2048x2048 (constantI S_ 32 0#32)))
    (cmpf .ogt d (broadcastInDim S8x2048x2048 ![] bcast_S_S8x2048x2048 (constant S_ .f32 0x00000000#32)))

/-- A choice between a tensor and one word everywhere. -/
def whereElse (w : BitVec 32) (c : V F S8x2048x2048 .i1) (d : V F S8x2048x2048 .f32) : V F S8x2048x2048 .f32 :=
  select c d (broadcastInDim S8x2048x2048 ![1, 2] bcast_S2048x2048_S8x2048x2048_1_2
    (broadcastInDim S2048x2048 ![] bcast_S_S2048x2048 (id (constant S_ .f32 w))))

/-- The row maxima. -/
def rowMax (pv : V F S8x2048x2048 .f32) : V F S8x2048 .f32 :=
  Host.reduce FloatOps.maximumf pv (constant S_ .f32 0xFF800000#32) reducesTo_S8x2048x2048_S8x2048_d2 h_S_

/-- The columns of the row maxima. -/
def argMax (pv : V F S8x2048x2048 .f32) : V F S8x2048 .i32 :=
  fun j => (Host.argReduce reducer_argmax_f32_i32 pv (iotaInDim S8x2048x2048 32 2) (constant S_ .f32 0xFF800000#32)
    (constantI S_ 32 0#32) reducesTo_S8x2048x2048_S8x2048_d2 h_S_ j).2

/-- Running counts of the mask along each row. -/
def running (mk : V F S8x2048x2048 .i1) : V F S8x2048x2048 .i32 :=
  Host.reduceWindow IntOp.addi ![1, 1, 2048] ![1, 1, 1] ![0, 0, 2047] ![0, 0, 0] (extui 32 mk natLt_1_32)
    (broadcastInDim S_ ![] bcast_S_S_ (constantI S_ 32 0#32))
    reduceWindows_S8x2048x2048_S8x2048x2048_w1s1p0_0_w1s1p0_0_w2048s1p2047_0 h_S_

/-- Column indices, a negative one counted from the end, one per row. -/
def wrapped (j : V F S8x2048x1 .i32) : V F S8x2048x1x1 .i32 :=
  shapeCast _ (select (cmpi .slt j (broadcastInDim S8x2048x1 ![] bcast_S_S8x2048x1 (constantI S_ 32 0#32)))
    (addi j (broadcastInDim S8x2048x1 ![] bcast_S_S8x2048x1 (constantI S_ 32 2048#32))) j) shapeCasts_S8x2048x1_S8x2048x1x1

/-- One entry per row, at a column index; an index outside the row gives the least word. -/
def takeAlong (r : V F S8x2048x2048 .i32) (j : V F S8x2048x1 .i32) : V F S8x2048x1 .i32 :=
  select (Host.reduce IntOp.andi
      (andi (cmpi .sge (wrapped j) (broadcastInDim S8x2048x1x1 ![] bcast_S_S8x2048x1x1 (constantI S_ 32 0#32)))
        (cmpi .sle (wrapped j) (broadcastInDim S8x2048x1x1 ![0, 1, 2, 3] bcast_S1x1x1x1_S8x2048x1x1_0_1_2_3
          (broadcastInDim S1x1x1x1 ![3] bcast_S1_S1x1x1x1_3 (constantI S1 32 2047#32)))))
      (constantI S_ 1 1#1) reducesTo_S8x2048x1x1_S8x2048x1_d3 h_S_)
    (Host.gather gather_S8x2048x2048_S8x2048x1x1_S8x2048x1_n_2_01_01_2_3_111 r (wrapped j))
    (broadcastInDim S8x2048x1 ![] bcast_S_S8x2048x1 (constantI S_ 32 2147483648#32))

/-- The position of the row maximum among the positives, less one. -/
def rank (pv : V F S8x2048x2048 .f32) (mk : V F S8x2048x2048 .i1) : V F S8x2048 .i32 :=
  subi (shapeCast _ (takeAlong (running mk) (broadcastInDim S8x2048x1 ![0, 1] bcast_S8x2048_S8x2048x1_0_1 (argMax pv)))
      shapeCasts_S8x2048x1_S8x2048)
    (broadcastInDim S8x2048 ![] bcast_S_S8x2048 (constantI S_ 32 1#32))

/-- Row numbers, a negative one counted from the end, as the column a row gather takes. -/
def rowIdx (g : V F S8x2048 .i32) : V F S8x2048x1 .i32 :=
  broadcastInDim S8x2048x1 ![0, 1] bcast_S8x2048_S8x2048x1_0_1
    (select (cmpi .slt g (broadcastInDim S8x2048 ![] bcast_S_S8x2048 (constantI S_ 32 0#32)))
      (addi g (broadcastInDim S8x2048 ![] bcast_S_S8x2048 (constantI S_ 32 2048#32))) g)

/-- The named rows of a tensor. -/
def rowsOf {e : EltTy} (x : V F S8x2048x2048 e) (g : V F S8x2048 .i32) : V F S8x2048x2048 e :=
  Host.gather gather_S8x2048x2048_S8x2048x1_S8x2048x2048_2_1_0_0_1_2_112048 x (rowIdx g)

/-- The negated distances to the columns labelled `p`, the filler elsewhere. -/
def negNear (p : BitVec 32) (lab : V F S8x2048x2048 .i32) (d : V F S8x2048x2048 .f32) : V F S8x2048x2048 .f32 :=
  Host.negf (whereElse 0x7149F2CA#32
    (cmpi .eq lab (broadcastInDim S8x2048x2048 ![] bcast_S_S8x2048x2048 (constantI S_ 32 p))) d)

/-- The absolute differences of one from the four nearest distances. -/
def dev4 (nd : V F S8x2048x2048 .f32) : V F S8x2048x4 .f32 :=
  Host.absf (subf (broadcastInDim S8x2048x4 ![] bcast_S_S8x2048x4 (constant S_ .f32 0x3F800000#32))
    (Host.negf (Host.topK S8x2048x4 2 (FloatOps.cmpfTotal .gt) nd sliceFits_S8x2048x2048_S8x2048x4).1))

/-- The absolute differences of two from the three nearest distances. -/
def dev3 (nd : V F S8x2048x2048 .f32) : V F S8x2048x3 .f32 :=
  Host.absf (subf (broadcastInDim S8x2048x3 ![] bcast_S_S8x2048x3 (constant S_ .f32 0x40000000#32))
    (Host.negf (Host.topK S8x2048x3 2 (FloatOps.cmpfTotal .gt) nd sliceFits_S8x2048x2048_S8x2048x3).1))

def max4 (a : V F S8x2048x4 .f32) : V F S8x2048 .f32 :=
  Host.reduce FloatOps.maximumf a (constant S_ .f32 0xFF800000#32) reducesTo_S8x2048x4_S8x2048_d2 h_S_

def max3 (a : V F S8x2048x3 .f32) : V F S8x2048 .f32 :=
  Host.reduce FloatOps.maximumf a (constant S_ .f32 0xFF800000#32) reducesTo_S8x2048x3_S8x2048_d2 h_S_

/-- The logarithm of the sum of exponentials over four columns, shifted by the maximum `mx`. -/
def lse4 (a : V F S8x2048x4 .f32) (mx : V F S8x2048 .f32) : V F S8x2048 .f32 :=
  addf mx (Host.log (Host.reduceAdd (Host.exp (subf a
    (broadcastInDim S8x2048x4 ![0, 1, 2] bcast_S8x2048x1_S8x2048x4_0_1_2
      (broadcastInDim S8x2048x1 ![0, 1] bcast_S8x2048_S8x2048x1_0_1 mx))))
    (constant S_ .f32 0x00000000#32) reducesTo_S8x2048x4_S8x2048_d2 h_S_))

/-- The same over three columns. -/
def lse3 (a : V F S8x2048x3 .f32) (mx : V F S8x2048 .f32) : V F S8x2048 .f32 :=
  addf mx (Host.log (Host.reduceAdd (Host.exp (subf a
    (broadcastInDim S8x2048x3 ![0, 1, 2] bcast_S8x2048x1_S8x2048x3_0_1_2
      (broadcastInDim S8x2048x1 ![0, 1] bcast_S8x2048_S8x2048x1_0_1 mx))))
    (constant S_ .f32 0x00000000#32) reducesTo_S8x2048x3_S8x2048_d2 h_S_))

/-- The first-pass loss. -/
def loss4 (nd : V F S8x2048x2048 .f32) : V F S8x2048 .f32 := lse4 (dev4 nd) (max4 (dev4 nd))

/-- The second-pass loss. -/
def loss3 (nd : V F S8x2048x2048 .f32) : V F S8x2048 .f32 := lse3 (dev3 nd) (max3 (dev3 nd))

/-- A row of zeros. -/
def zeros : V F S2048 .f32 := broadcastInDim S2048 ![] bcast_S_S2048 (constant S_ .f32 0x00000000#32)

/-- A row repeated over the batches. -/
def spread (z : V F S2048 .f32) : V F S8x2048 .f32 :=
  broadcastInDim S8x2048 ![0, 1] bcast_S1x2048_S8x2048_0_1 (broadcastInDim S1x2048 ![1] bcast_S2048_S1x2048_1 z)

/-- The squared positive part of the loss plus the maximum, averaged over rows, then over batches. -/
def average (l pp : V F S8x2048 .f32) : V F S_ .f32 :=
  let j := maximumf (addf l pp) (broadcastInDim S8x2048 ![] bcast_S_S8x2048 (constant S_ .f32 0x00000000#32))
  Host.divf (Host.reduceAdd
      (Host.divf (Host.reduceAdd (mulf j j) (constant S_ .f32 0x00000000#32) reducesTo_S8x2048_S8_d1 h_S_)
        (broadcastInDim S8 ![] bcast_S_S8 (constant S_ .f32 0x45000000#32)))
      (constant S_ .f32 0x00000000#32) reducesTo_S8_S_d0 h_S_)
    (constant S_ .f32 0x41000000#32)

section Segments

variable (W : Valuation τ sig (Elt F))

set_option maxRecDepth 8192 in
set_option maxHeartbeats 1000000 in
theorem segA_main_v11 : after segA W (no_index (Proc.devRef .tc main_v11)) = dist (W (Proc.devRef .tc main_arg0)) := by
  simp only [segA, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segA_main_v16 : after segA W (no_index (Proc.devRef .tc main_v16)) = mask (W (Proc.devRef .tc main_arg1)) (dist (W (Proc.devRef .tc main_arg0))) := by
  simp only [segA, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segA_main_v17 : after segA W (no_index (Proc.devRef .tc main_v17)) = whereElse 0xF149F2CA#32 (mask (W (Proc.devRef .tc main_arg1)) (dist (W (Proc.devRef .tc main_arg0)))) (dist (W (Proc.devRef .tc main_arg0))) := by
  simp only [segA, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segA_main_v18 : after segA W (no_index (Proc.devRef .tc main_v18)) = rowMax (whereElse 0xF149F2CA#32 (mask (W (Proc.devRef .tc main_arg1)) (dist (W (Proc.devRef .tc main_arg0)))) (dist (W (Proc.devRef .tc main_arg0)))) := by
  simp only [segA, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segB_main_v26 : after segB W (no_index (Proc.devRef .tc main_v26)) = rank (W (Proc.devRef .tc main_v17)) (W (Proc.devRef .tc main_v16)) := by
  simp only [segB, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segC_main_v33 : after segC W (no_index (Proc.devRef .tc main_v33)) = rowsOf (e := .f32) (W (Proc.devRef .tc main_v11)) (W (Proc.devRef .tc main_v26)) := by
  simp only [segC, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segC_main_v40 : after segC W (no_index (Proc.devRef .tc main_v40)) = rowsOf (e := .i32) (W (Proc.devRef .tc main_arg1)) (W (Proc.devRef .tc main_v26)) := by
  simp only [segC, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segC_main_v41 : after segC W (no_index (Proc.devRef .tc main_v41)) = zeros := by
  simp only [segC, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segD0_main_v45 : after segD0 W (no_index (Proc.devRef .tc main_v45)) = negNear 1#32 (W (Proc.devRef .tc main_arg1)) (W (Proc.devRef .tc main_v11)) := by
  simp only [segD0, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segD1_main_v57 : after segD1 W (no_index (Proc.devRef .tc main_v57)) = loss4 (W (Proc.devRef .tc main_v45)) := by
  simp only [segD1, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segD2_main_v61 : after segD2 W (no_index (Proc.devRef .tc main_v61)) = negNear 1#32 (W (Proc.devRef .tc main_v40)) (W (Proc.devRef .tc main_v33)) := by
  simp only [segD2, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segD3_main_v77 : after segD3 W (no_index (Proc.devRef .tc main_v77)) = addf (addf (spread (W (Proc.devRef .tc main_v41))) (W (Proc.devRef .tc main_v57))) (loss4 (W (Proc.devRef .tc main_v61))) := by
  simp only [segD3, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE0_main_v81 : after segE0 W (no_index (Proc.devRef .tc main_v81)) = negNear 2#32 (W (Proc.devRef .tc main_arg1)) (W (Proc.devRef .tc main_v11)) := by
  simp only [segE0, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE1_main_v85 : after segE1 W (no_index (Proc.devRef .tc main_v85)) = dev3 (W (Proc.devRef .tc main_v81)) := by
  simp only [segE1, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE1_main_v86 : after segE1 W (no_index (Proc.devRef .tc main_v86)) = max3 (dev3 (W (Proc.devRef .tc main_v81))) := by
  simp only [segE1, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE1_main_v87 : after segE1 W (no_index (Proc.devRef .tc main_v87)) = broadcastInDim S8x2048x1 ![0, 1] bcast_S8x2048_S8x2048x1_0_1 (max3 (dev3 (W (Proc.devRef .tc main_v81)))) := by
  simp only [segE1, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE2_main_v93 : after segE2 W (no_index (Proc.devRef .tc main_v93)) = addf (W (Proc.devRef .tc main_v86)) (Host.log (Host.reduceAdd (Host.exp (subf (W (Proc.devRef .tc main_v85))
      (broadcastInDim S8x2048x3 ![0, 1, 2] bcast_S8x2048x1_S8x2048x3_0_1_2 (W (Proc.devRef .tc main_v87)))))
      (constant S_ .f32 0x00000000#32) reducesTo_S8x2048x3_S8x2048_d2 h_S_)) := by
  simp only [segE2, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE3_main_v97 : after segE3 W (no_index (Proc.devRef .tc main_v97)) = negNear 2#32 (W (Proc.devRef .tc main_v40)) (W (Proc.devRef .tc main_v33)) := by
  simp only [segE3, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segE4_main_v111 : after segE4 W (no_index (Proc.devRef .tc main_v111)) = addf (addf (W (Proc.devRef .tc main_v77)) (W (Proc.devRef .tc main_v93))) (loss3 (W (Proc.devRef .tc main_v97))) := by
  simp only [segE4, TRef.ternary, TRef.unary, TRef.binary, TRef.nullary, TRef.quaternary, TRef.reshape, TRef.toBuf, TRef.ofBuf, cast_eq]
  after_results_simp
  try rfl

set_option maxRecDepth 8192 in
set_option maxHeartbeats 1000000 in
theorem segF_main_v120 : after segF W (no_index (Proc.devRef .tc main_v120)) = average (W (Proc.devRef .tc main_v111)) (W (Proc.devRef .tc main_v18)) := by
  simp only [segF, TRef.ternary, TRef.unary, TRef.binary, TRef.nullary, TRef.quaternary, TRef.reshape, TRef.toBuf, TRef.ofBuf, cast_eq]
  after_results_simp
  try rfl

end Segments

/-- What the reference computes from its two arguments. -/
def out (x : V F S8x2048x32 .f32) (lab : V F S8x2048x2048 .i32) : V F S_ .f32 :=
  let d := dist x
  let mk := mask lab d
  let pv := whereElse 0xF149F2CA#32 mk d
  let g := rank pv mk
  let dr := rowsOf (e := .f32) d g
  let lr := rowsOf (e := .i32) lab g
  average (addf (addf (addf (addf (spread zeros) (loss4 (negNear 1#32 lab d))) (loss4 (negNear 1#32 lr dr)))
    (loss3 (negNear 2#32 lab d))) (loss3 (negNear 2#32 lr dr))) (rowMax pv)

set_option maxRecDepth 8192 in
set_option maxHeartbeats 1000000 in
theorem final_main_v120 (W : Valuation τ sig (Elt F)) :
    final W (Proc.devRef .tc main_v120) = out (W (Proc.devRef .tc main_arg0)) (W (Proc.devRef .tc main_arg1)) := by
  simp only [final, segA_main_v11, segA_main_v16, segA_main_v17, segA_main_v18, segB_main_v26, segC_main_v33, segC_main_v40, segC_main_v41, segD0_main_v45, segD1_main_v57, segD2_main_v61, segD3_main_v77, segE0_main_v81, segE1_main_v85, segE1_main_v86, segE1_main_v87, segE2_main_v93, segE3_main_v97, segE4_main_v111, segF_main_v120,
    segA_keep _ main_arg0 (by decide), segB_keep _ main_arg0 (by decide), segC_keep _ main_arg0 (by decide), segD0_keep _ main_arg0 (by decide), segD1_keep _ main_arg0 (by decide), segD2_keep _ main_arg0 (by decide), segD3_keep _ main_arg0 (by decide), segE0_keep _ main_arg0 (by decide), segE1_keep _ main_arg0 (by decide), segE2_keep _ main_arg0 (by decide), segE3_keep _ main_arg0 (by decide), segE4_keep _ main_arg0 (by decide), segF_keep _ main_arg0 (by decide), segA_keep _ main_arg1 (by decide), segB_keep _ main_arg1 (by decide), segC_keep _ main_arg1 (by decide), segD0_keep _ main_arg1 (by decide), segD1_keep _ main_arg1 (by decide), segD2_keep _ main_arg1 (by decide), segD3_keep _ main_arg1 (by decide), segE0_keep _ main_arg1 (by decide), segE1_keep _ main_arg1 (by decide), segE2_keep _ main_arg1 (by decide), segE3_keep _ main_arg1 (by decide), segE4_keep _ main_arg1 (by decide), segF_keep _ main_arg1 (by decide), segB_keep _ main_v11 (by decide), segC_keep _ main_v11 (by decide), segD0_keep _ main_v11 (by decide), segD1_keep _ main_v11 (by decide), segD2_keep _ main_v11 (by decide), segD3_keep _ main_v11 (by decide), segB_keep _ main_v18 (by decide), segC_keep _ main_v18 (by decide), segD0_keep _ main_v18 (by decide), segD1_keep _ main_v18 (by decide), segD2_keep _ main_v18 (by decide), segD3_keep _ main_v18 (by decide), segE0_keep _ main_v18 (by decide), segE1_keep _ main_v18 (by decide), segE2_keep _ main_v18 (by decide), segE3_keep _ main_v18 (by decide), segE4_keep _ main_v18 (by decide), segD0_keep _ main_v33 (by decide), segD1_keep _ main_v33 (by decide), segD2_keep _ main_v33 (by decide), segD3_keep _ main_v33 (by decide), segE0_keep _ main_v33 (by decide), segE1_keep _ main_v33 (by decide), segE2_keep _ main_v33 (by decide), segD0_keep _ main_v40 (by decide), segD1_keep _ main_v40 (by decide), segD2_keep _ main_v40 (by decide), segD3_keep _ main_v40 (by decide), segE0_keep _ main_v40 (by decide), segE1_keep _ main_v40 (by decide), segE2_keep _ main_v40 (by decide), segD0_keep _ main_v41 (by decide), segD1_keep _ main_v41 (by decide), segD2_keep _ main_v41 (by decide), segD2_keep _ main_v57 (by decide), segE0_keep _ main_v77 (by decide), segE1_keep _ main_v77 (by decide), segE2_keep _ main_v77 (by decide), segE3_keep _ main_v77 (by decide), segE3_keep _ main_v93 (by decide)]
  simp only [out, loss3, lse3, max3]

set_option maxRecDepth 8192 in
theorem final_main_arg0 (W : Valuation τ sig (Elt F)) :
    final W (Proc.devRef .tc main_arg0) = W (Proc.devRef .tc main_arg0) := by
  simp only [final, segA_keep _ main_arg0 (by decide), segB_keep _ main_arg0 (by decide), segC_keep _ main_arg0 (by decide), segD0_keep _ main_arg0 (by decide), segD1_keep _ main_arg0 (by decide), segD2_keep _ main_arg0 (by decide), segD3_keep _ main_arg0 (by decide), segE0_keep _ main_arg0 (by decide), segE1_keep _ main_arg0 (by decide), segE2_keep _ main_arg0 (by decide), segE3_keep _ main_arg0 (by decide), segE4_keep _ main_arg0 (by decide), segF_keep _ main_arg0 (by decide)]

set_option maxRecDepth 8192 in
theorem final_main_arg1 (W : Valuation τ sig (Elt F)) :
    final W (Proc.devRef .tc main_arg1) = W (Proc.devRef .tc main_arg1) := by
  simp only [final, segA_keep _ main_arg1 (by decide), segB_keep _ main_arg1 (by decide), segC_keep _ main_arg1 (by decide), segD0_keep _ main_arg1 (by decide), segD1_keep _ main_arg1 (by decide), segD2_keep _ main_arg1 (by decide), segD3_keep _ main_arg1 (by decide), segE0_keep _ main_arg1 (by decide), segE1_keep _ main_arg1 (by decide), segE2_keep _ main_arg1 (by decide), segE3_keep _ main_arg1 (by decide), segE4_keep _ main_arg1 (by decide), segF_keep _ main_arg1 (by decide)]

end Cert.Proof.Ref

end
-- ==== Proof.RefRows.lean ====
/-
  The reference's arrays, read at a row: distances, where a row counts, its farthest counted distance.
-/
module

public import proofs.«01_k».proof.Proof.RefRead
public import proofs.«01_k».proof.Proof.Spec
public import proofs.«01_k».proof.Proof.VecRounds
public import Idealize.ShloMosaic.PureOps.Ideal.Laws
public import Idealize.ShloMosaic.Lib.Pointwise
public import Idealize.ShloMosaic.Lib.IdealHost

@[expose] public section

set_option maxRecDepth 16384

noncomputable section

namespace Cert.Proof.Ref

open Cert.ReferenceIdeal Cert.ReferenceIdeal.Gen Idealize.ShloMosaic

/-- The points in a buffer of them. -/
def ptsOf (x : S8x2048x32.Idx → EReal) : Pts := fun b i c => x (ix3 b i c)

/-- The labels in a buffer of them. -/
def labsOf (t : S8x2048x2048.Idx → BitVec 32) : Labs := fun b i j => t (ix3 b i j)

variable (x : V Ideal S8x2048x32 .f32) (lab : V Ideal S8x2048x2048 .i32)

theorem dist_apply (b : Fin 8) (i j : Fin 2048) : dist x (ix3 b i j) = dline (ptsOf x) b i j := by
  unfold dline ptsOf
  pointwise [dist, sqs]

open Classical in
theorem mask_apply (b : Fin 8) (i j : Fin 2048) : mask lab (dist x) (ix3 b i j) = if Counts (labsOf lab b i) (dline (ptsOf x) b i) j then 1#1 else 0#1 := by
  pointwise [mask]
  rw [dist_apply]
  exact @andi_eq _ _ _ _ _ (Classical.propDecidable _)

theorem kept_apply (b : Fin 8) (i j : Fin 2048) : whereElse 0xF149F2CA#32 (mask lab (dist x)) (dist x) (ix3 b i j)
    = keptLine (ptsOf x) (labsOf lab) b i j := by
  classical
  pointwise [whereElse]
  rw [mask_apply, dist_apply]
  unfold keptLine kept
  by_cases h : Counts (labsOf lab b i) (dline (ptsOf x) b i) j
  · rw [if_pos h, if_pos h]; rfl
  · rw [if_neg h, if_neg h]; rfl

theorem rowMax_apply (pv : V Ideal S8x2048x2048 .f32) (b : Fin 8) (i : Fin 2048) : rowMax pv (ix2 b i) = Finset.univ.sup fun j => pv (ix3 b i j) := by
  pointwise [rowMax]
  rw [show Ideal.ofBits FTy.f32 4286578688#32 = ⊥ from Ker.ofBits_bot]
  rfl

end Cert.Proof.Ref

end
-- ==== Proof.RefFold.lean ====
/-
  The reference's folds at an index: the column of a row's greatest entry, the running counts.
-/
module

public import proofs.«01_k».proof.Proof.RefRows
public import Idealize.ShloMosaic.PureOps.Reduce
public import Idealize.ShloMosaic.PureOps.Ideal.Laws

@[expose] public section

set_option maxRecDepth 16384

noncomputable section

namespace Cert.Proof.Ref

open Cert.ReferenceIdeal Cert.ReferenceIdeal.Gen Idealize.ShloMosaic

section Argmax

/-- One pair of a value and an index before another: a greater value, or the same and an index no greater. -/
def Before (p q : EReal × BitVec 32) : Prop := q.1 < p.1 ∨ (p.1 = q.1 ∧ p.2.toInt ≤ q.2.toInt)

/-- The reducer keeps its first pair when that is before the second. -/
theorem keep_left {p q : EReal × BitVec 32} (h : Before p q) : reducer_argmax_f32_i32 (F := Ideal) p q = p := by
  obtain ⟨a, i⟩ := p
  obtain ⟨b, j⟩ := q
  unfold reducer_argmax_f32_i32
  simp only [Ideal.cmpf_def, Ideal.cmp]
  rcases h with h | ⟨h1, h2⟩
  · have h : b < a := h
    have h1 : ∀ z : BitVec 1, IntOp.ori (BitVec.ofBool true) z = 1#1 := by decide
    have h2 : ∀ z : BitVec 1, IntOp.ori 1#1 z = 1#1 := by decide
    simp only [h, decide_true, h1, h2, Scalar.select, ite_true]
    rfl
  · have h1 : a = b := h1
    have h2 : i.toInt ≤ j.toInt := h2
    subst h1
    rcases lt_or_eq_of_le h2 with h3 | h3
    · simp [Scalar.select, IntOp.ori, IntOp.andi, IntOp.cmpi, BitVec.slt, h3]
    · have : i = j := BitVec.eq_of_toInt_eq h3
      subst this
      simp [Scalar.select]

/-- and its second pair when that is before the first. -/
theorem keep_right {p q : EReal × BitVec 32} (h : Before q p) : reducer_argmax_f32_i32 (F := Ideal) p q = q := by
  obtain ⟨a, i⟩ := p
  obtain ⟨b, j⟩ := q
  unfold reducer_argmax_f32_i32
  simp only [Ideal.cmpf_def, Ideal.cmp]
  rcases h with h | ⟨h1, h2⟩
  · have h : a < b := h
    simp [not_lt.mpr h.le, Scalar.select, IntOp.ori, IntOp.andi, ne_of_lt h]
  · have h1 : b = a := h1
    have h2 : j.toInt ≤ i.toInt := h2
    subst h1
    simp [Scalar.select, IntOp.ori, IntOp.andi, IntOp.cmpi, BitVec.slt, not_lt.mpr h2]

theorem before_total (p q : EReal × BitVec 32) : Before p q ∨ Before q p := by
  rcases lt_trichotomy p.1 q.1 with h | h | h
  · exact Or.inr (Or.inl h)
  · rcases le_total p.2.toInt q.2.toInt with h2 | h2
    · exact Or.inl (Or.inr ⟨h, h2⟩)
    · exact Or.inr (Or.inr ⟨h.symm, h2⟩)
  · exact Or.inl (Or.inl h)

/-- The fold ends at the pair that is before all. -/
theorem fold_best {ι : Type} (f : ι → EReal × BitVec 32) (q : EReal × BitVec 32) (l : List ι) (p : EReal × BitVec 32)
    (hp : Before q p) (hl : ∀ n ∈ l, Before q (f n)) (hq : q = p ∨ ∃ n ∈ l, f n = q) :
    l.foldl (fun r n => reducer_argmax_f32_i32 (F := Ideal) r (f n)) p = q := by
  induction l generalizing p with
  | nil =>
    rcases hq with rfl | ⟨n, hn, -⟩
    · rfl
    · exact absurd hn (List.not_mem_nil)
  | cons x l ih =>
    rw [List.foldl_cons]
    refine ih _ ?_ (fun n hn => hl n (List.mem_cons_of_mem _ hn)) ?_
    · rcases before_total p (f x) with h | h
      · rw [keep_left h]; exact hp
      · rw [keep_right h]; exact hl x List.mem_cons_self
    · rcases hq with rfl | ⟨n, hn, rfl⟩
      · exact Or.inl (keep_left (hl x List.mem_cons_self)).symm
      · rcases List.mem_cons.mp hn with rfl | hn
        · exact Or.inl (keep_right hp).symm
        · exact Or.inr ⟨n, hn, rfl⟩

/-- A reduction of pairs at an index, where one pair of the fibre is before the others and the start. -/
theorem reduce2_best {s t u : Shape} {axes : List (Fin s.rank)} (x : s.Idx → EReal) (y : s.Idx → BitVec 32) (ix : u.Idx → EReal)
    (iy : u.Idx → BitVec 32) (h : s.ReducesTo axes t) (hu : 0 < u.numel) (j : t.Idx) (k : s.Idx)
    (hp : Before (x k, y k) (ix (Shape.Idx.first hu), iy (Shape.Idx.first hu))) (hk : h.drop k = j)
    (hl : ∀ i, h.drop i = j → Before (x k, y k) (x i, y i)) :
    Host.reduce2 (reducer_argmax_f32_i32 (F := Ideal)) x y ix iy h hu j = (x k, y k) := by
  refine fold_best (fun n => (x (s.rowMajor.symm n), y (s.rowMajor.symm n))) _ _ _ hp
    (fun n hn => hl _ (of_decide_eq_true (List.mem_filter.mp hn).2)) (Or.inr ⟨s.rowMajor k, ?_, ?_⟩)
  · refine List.mem_filter.mpr ⟨List.mem_finRange _, decide_eq_true ?_⟩
    rw [Equiv.symm_apply_apply]
    exact hk
  · rw [Equiv.symm_apply_apply]

/-- The same fold's index, as the reference takes it. -/
theorem argReduce_best {s t u : Shape} {axes : List (Fin s.rank)} (x : FVec Ideal s .f32) (y : s.Idx → BitVec 32) (ix : FVec Ideal u .f32)
    (iy : u.Idx → BitVec 32) (h : s.ReducesTo axes t) (hu : 0 < u.numel) (j : t.Idx) (k : s.Idx)
    (hp : Before (x k, y k) (ix (Shape.Idx.first hu), iy (Shape.Idx.first hu))) (hk : h.drop k = j)
    (hl : ∀ i, h.drop i = j → Before (x k, y k) (x i, y i)) :
    Host.argReduce (reducer_argmax_f32_i32 (F := Ideal)) x y ix iy h hu j = (x k, y k) := by
  rw [Ideal.argReduce_eq_reduce2]
  exact reduce2_best x y ix iy h hu j k hp hk hl

/-- A column number as a signed word. -/
theorem toInt_col (k : Fin 2048) : (BitVec.ofNat 32 k.val).toInt = (k.val : ℤ) := by
  have := k.isLt
  rw [BitVec.toInt_eq_toNat_cond, BitVec.toNat_ofNat, Nat.mod_eq_of_lt (by omega), if_pos (by omega)]

/-- Dropping the columns keeps batch and row. -/
theorem drop_cols (b : Fin 8) (i k : Fin 2048) : reducesTo_S8x2048x2048_S8x2048_d2.drop (ix3 b i k) = ix2 b i := by
  funext a
  match a with
  | ⟨0, _⟩ => exact Fin.ext (Shape.ReducesTo.drop_apply_val_of_eq reducesTo_S8x2048x2048_S8x2048_d2 (ix3 b i k) 0 0)
  | ⟨1, _⟩ => exact Fin.ext (Shape.ReducesTo.drop_apply_val_of_eq reducesTo_S8x2048x2048_S8x2048_d2 (ix3 b i k) 1 1)

/-- A second component at an index, where the pair there is known. -/
theorem snd_at {ι A B : Type} {a : ι → B} {y : ι → A × B} (h : a = fun j => (y j).2) {j : ι} {p : A × B} (hy : y j = p) : a j = p.2 := by
  subst h
  exact congrArg Prod.snd hy

/-- The columns, written out. -/
theorem argMax_eq {F : FTy → Type} [FloatOps F] (pv : V F S8x2048x2048 .f32) :
    argMax pv = (fun j => (Host.argReduce reducer_argmax_f32_i32 pv (iotaInDim S8x2048x2048 32 2) (constant S_ .f32 0xFF800000#32)
      (constantI S_ 32 0#32) reducesTo_S8x2048x2048_S8x2048_d2 h_S_ j).2) := rfl

/-- The column of a row's greatest entry is the first that attains it. -/
theorem argMax_apply (pv : V Ideal S8x2048x2048 .f32) (b : Fin 8) (i j : Fin 2048) (hj : IsFirst (fun j => pv (ix3 b i j)) j)
    (hb : ⊥ < pv (ix3 b i j)) : argMax pv (ix2 b i) = BitVec.ofNat 32 j.val := by
  have key := argReduce_best (s := (⟨S8x2048x2048, .f32⟩ : BufTy).shape) (t := S8x2048) (u := S_) pv (iotaInDim S8x2048x2048 32 2)
    (constant S_ .f32 0xFF800000#32) (constantI S_ 32 0#32) reducesTo_S8x2048x2048_S8x2048_d2 h_S_ (ix2 b i) (ix3 b i j)
    (Or.inl ?_) (drop_cols b i j) fun y hy => ?_
  · exact snd_at (argMax_eq pv) (p := (pv (ix3 b i j), BitVec.ofNat 32 j.val)) key
  · show Ideal.ofBits .f32 0xFF800000#32 < _
    rw [Ker.ofBits_bot]
    exact hb
  · obtain ⟨b', i', k, rfl⟩ : ∃ (b' : Fin 8) (i' k : Fin 2048), y = ix3 b' i' k := ⟨_, _, _, eq_ix3 y⟩
    rw [drop_cols] at hy
    have h0 : b' = b := congrFun hy 0
    have h1 : i' = i := congrFun hy 1
    subst h0 h1
    by_cases hk : pv (ix3 b' i' k) = pv (ix3 b' i' j)
    · refine Or.inr ⟨hk.symm, ?_⟩
      show (BitVec.ofNat 32 j.val).toInt ≤ (BitVec.ofNat 32 k.val).toInt
      rw [toInt_col, toInt_col]
      have : ¬ k < j := fun hlt => hj.2 k hlt (hk.trans hj.1)
      exact_mod_cast not_lt.mp this
    · refine Or.inl (lt_of_le_of_ne ?_ hk)
      show pv (ix3 b' i' k) ≤ pv (ix3 b' i' j)
      rw [show pv (ix3 b' i' j) = _ from hj.1]
      exact Finset.le_sup (f := fun j => pv (ix3 b' i' j)) (Finset.mem_univ k)

end Argmax

section Running

/-- A fold of word sums over entries that are words of naturals. -/
theorem foldl_words {ι : Type} (f : ι → BitVec 32) (g : ι → ℕ) (hf : ∀ n, f n = BitVec.ofNat 32 (g n)) (l : List ι) (c : ℕ) :
    l.foldl (fun r n => IntOp.addi r (f n)) (BitVec.ofNat 32 c) = BitVec.ofNat 32 (c + (l.map g).sum) := by
  induction l generalizing c with
  | nil => simp
  | cons x l ih =>
    rw [List.foldl_cons, hf, show IntOp.addi (BitVec.ofNat 32 c) (BitVec.ofNat 32 (g x)) = BitVec.ofNat 32 (c + g x) from
      (BitVec.ofNat_add c (g x)).symm, ih, List.map_cons, List.sum_cons, Nat.add_assoc]

/-- A window sum of words at an index: the word of a sum over the window, counting nothing where the window leaves the array. -/
theorem window_sum {s t u : Shape} (window strides lo hi : Fin s.rank → ℕ) (x : s.Idx → BitVec 32) (init : u.Idx → BitVec 32)
    (h : s.ReduceWindows window strides lo hi t) (hu : 0 < u.numel) (j : t.Idx) (hv : ∀ i, init i = 0#32)
    (g : (⟨s.rank, window⟩ : Shape).Idx → ℕ)
    (hin : ∀ (y : (⟨s.rank, window⟩ : Shape).Idx) (hy : ∀ a, lo a ≤ (j (a.cast h.1.symm)).val * strides a + (y a).val
        ∧ (j (a.cast h.1.symm)).val * strides a + (y a).val - lo a < s.size a),
      x (fun a => ⟨(j (a.cast h.1.symm)).val * strides a + (y a).val - lo a, (hy a).2⟩) = BitVec.ofNat 32 (g y))
    (hout : ∀ y : (⟨s.rank, window⟩ : Shape).Idx, (¬ ∀ a, lo a ≤ (j (a.cast h.1.symm)).val * strides a + (y a).val
        ∧ (j (a.cast h.1.symm)).val * strides a + (y a).val - lo a < s.size a) → g y = 0) :
    Host.reduceWindow IntOp.addi window strides lo hi x init h hu j = BitVec.ofNat 32 (∑ y, g y) := by
  unfold Host.reduceWindow
  dsimp only
  rw [hv]
  refine (foldl_words _ (fun n => g ((⟨s.rank, window⟩ : Shape).rowMajor.symm n)) (fun n => ?_) _ 0).trans ?_
  · split
    · next hy => exact hin _ hy
    · next hy => rw [hout _ hy]
  · rw [Nat.zero_add, ← Fin.sum_univ_def]
    exact congrArg _ (Equiv.sum_comp (⟨s.rank, window⟩ : Shape).rowMajor.symm g)

open Classical in
/-- The running count at a column is the count of the marked columns up to it. -/
theorem running_apply (mk : V Ideal S8x2048x2048 .i1) (l : Fin 2048 → BitVec 32) (d : Fin 2048 → EReal) (b : Fin 8) (i j : Fin 2048)
    (hmk : ∀ k, mk (ix3 b i k) = if Counts l d k then 1#1 else 0#1) :
    running mk (ix3 b i j) = BitVec.ofNat 32 (countTo l d j) := by
  have hj := j.isLt
  have hx : ∀ k, extui 32 mk natLt_1_32 (ix3 b i k) = BitVec.ofNat 32 (if Counts l d k then 1 else 0) := by
    intro k
    show (mk (ix3 b i k)).setWidth 32 = _
    rw [hmk]
    by_cases h : Counts l d k
    · rw [if_pos h, if_pos h]; rfl
    · rw [if_neg h, if_neg h]; rfl
  unfold running
  refine (window_sum (s := S8x2048x2048) (t := S8x2048x2048) ![1, 1, 2048] _ _ _ _ _ _ h_S_ (ix3 b i j) (fun _ => rfl)
    (fun y => if h : 2047 ≤ j.val + (y 2).val ∧ j.val + (y 2).val - 2047 < 2048 then
      (if Counts l d ⟨j.val + (y 2).val - 2047, h.2⟩ then 1 else 0) else 0) (fun y hy => ?_) (fun y hy => ?_)).trans ?_
  · have h2 := hy 2
    have h2 : 2047 ≤ j.val * 1 + (y 2).val ∧ j.val * 1 + (y 2).val - 2047 < 2048 := h2
    have hy0 : (y 0).val < 1 := (y 0).isLt
    have hy1 : (y 1).val < 1 := (y 1).isLt
    rw [Nat.mul_one] at h2
    rw [dif_pos h2]
    refine (congrArg (extui 32 mk natLt_1_32) (?_ : _ = ix3 b i ⟨j.val + (y 2).val - 2047, h2.2⟩)).trans (hx _)
    funext a
    match a with
    | ⟨0, _⟩ =>
      refine Fin.ext ?_
      show b.val * 1 + (y 0).val - 0 = b.val
      omega
    | ⟨1, _⟩ =>
      refine Fin.ext ?_
      show i.val * 1 + (y 1).val - 0 = i.val
      omega
    | ⟨2, _⟩ =>
      refine Fin.ext ?_
      show j.val * 1 + (y 2).val - 2047 = j.val + (y 2).val - 2047
      omega
  · refine dif_neg fun h2 => hy fun a => ?_
    have hy0 : (y 0).val < 1 := (y 0).isLt
    have hy1 : (y 1).val < 1 := (y 1).isLt
    match a with
    | ⟨0, _⟩ =>
      show 0 ≤ b.val * 1 + (y 0).val ∧ b.val * 1 + (y 0).val - 0 < 8
      have := b.isLt
      omega
    | ⟨1, _⟩ =>
      show 0 ≤ i.val * 1 + (y 1).val ∧ i.val * 1 + (y 1).val - 0 < 2048
      have := i.isLt
      omega
    | ⟨2, _⟩ =>
      show 2047 ≤ j.val * 1 + (y 2).val ∧ j.val * 1 + (y 2).val - 2047 < 2048
      omega
  · refine congrArg (BitVec.ofNat 32) ?_
    refine (sum_idx3 (n0 := 1) (n1 := 1) (n2 := 2048) _).trans ?_
    rw [Fin.sum_univ_one, Fin.sum_univ_one]
    show (∑ k : Fin 2048, if h : 2047 ≤ j.val + k.val ∧ j.val + k.val - 2047 < 2048 then
      (if Counts l d ⟨j.val + k.val - 2047, h.2⟩ then 1 else 0) else 0) = _
    unfold countTo
    rw [Finset.card_filter]
    refine Finset.sum_bij_ne_zero (fun k _ h => ⟨(j.val + k.val - 2047) % 2048, Nat.mod_lt _ (by decide)⟩) (fun _ _ _ => Finset.mem_univ _)
      (fun k _ h k' _ h' e => ?_) (fun k _ h => ?_) (fun k _ h => ?_)
    · have e := congrArg Fin.val e
      have a : 2047 ≤ j.val + k.val ∧ j.val + k.val - 2047 < 2048 := by
        by_contra hc; exact h (dif_neg hc)
      have a' : 2047 ≤ j.val + k'.val ∧ j.val + k'.val - 2047 < 2048 := by
        by_contra hc; exact h' (dif_neg hc)
      dsimp only at e
      refine Fin.ext ?_
      omega
    · have hk := k.isLt
      have hc : Counts l d k ∧ k ≤ j := by
        by_contra hc; exact h (if_neg hc)
      have hle : k.val ≤ j.val := hc.2
      have e : (⟨j.val + (k.val + 2047 - j.val) - 2047, by omega⟩ : Fin 2048) = k := Fin.ext (by show j.val + (k.val + 2047 - j.val) - 2047 = k.val; omega)
      refine ⟨⟨k.val + 2047 - j.val, by omega⟩, Finset.mem_univ _, ?_, Fin.ext ?_⟩
      · rw [dif_pos (show 2047 ≤ j.val + (k.val + 2047 - j.val) ∧ j.val + (k.val + 2047 - j.val) - 2047 < 2048 by omega)]
        dsimp only
        rw [e, if_pos hc.1]
        exact one_ne_zero
      · show (j.val + (k.val + 2047 - j.val) - 2047) % 2048 = k.val
        omega
    · have hk := k.isLt
      have a : 2047 ≤ j.val + k.val ∧ j.val + k.val - 2047 < 2048 := by
        by_contra hc; exact h (dif_neg hc)
      have e : (⟨(j.val + k.val - 2047) % 2048, Nat.mod_lt _ (by decide)⟩ : Fin 2048) = ⟨j.val + k.val - 2047, a.2⟩ := Fin.ext (Nat.mod_eq_of_lt a.2)
      rw [dif_pos a] at h ⊢
      have hc : Counts l d ⟨j.val + k.val - 2047, a.2⟩ := by
        by_contra hc; exact h (if_neg hc)
      rw [e, if_pos hc, if_pos ⟨hc, show j.val + k.val - 2047 ≤ j.val by omega⟩]

end Running

end Cert.Proof.Ref
-- ==== Proof.RefGather.lean ====
/-
  The reference's lookups at an index: one entry per row at a column, the named rows of a tensor.
-/
module

public import proofs.«01_k».proof.Proof.RefFold
public import Idealize.ShloMosaic.Lib.ReduceAll

@[expose] public section

set_option maxRecDepth 16384

noncomputable section

namespace Cert.Proof.Ref

open Cert.ReferenceIdeal Cert.ReferenceIdeal.Gen Idealize.ShloMosaic

/-- A column number is not below zero, and not above the last. -/
theorem not_neg (k : Fin 2048) : IntOp.cmpi .slt (BitVec.ofNat 32 k.val) 0#32 = 0#1 := by
  have := k.isLt
  simp only [IntOp.cmpi, BitVec.slt]
  rw [toInt_col k, decide_eq_false (by simp)]
  rfl

theorem in_row (k : Fin 2048) : IntOp.andi (IntOp.cmpi .sge (BitVec.ofNat 32 k.val) 0#32) (IntOp.cmpi .sle (BitVec.ofNat 32 k.val) 2047#32) = 1#1 := by
  have := k.isLt
  simp only [IntOp.cmpi, BitVec.sle]
  rw [toInt_col k, show (0#32).toInt = 0 from rfl, show (2047#32).toInt = 2047 from rfl, decide_eq_true (by omega), decide_eq_true (by omega)]
  rfl

theorem wrapped_apply (j : V Ideal S8x2048x1 .i32) (b : Fin 8) (i k : Fin 2048) (hj : j (ix3 b i (0 : Fin 1)) = BitVec.ofNat 32 k.val) :
    wrapped (F := Ideal) j (ix4 b i (0 : Fin 1) (0 : Fin 1)) = BitVec.ofNat 32 k.val := by
  pointwise [wrapped]
  rw [hj, not_neg]
  rfl

/-- The entry of a row at the column an index array names. -/
theorem gather_entry (r : V Ideal S8x2048x2048 .i32) (w : V Ideal S8x2048x1x1 .i32) (b : Fin 8) (i k : Fin 2048)
    (hw : w (ix4 b i (0 : Fin 1) (0 : Fin 1)) = BitVec.ofNat 32 k.val) :
    Host.gather gather_S8x2048x2048_S8x2048x1x1_S8x2048x1_n_2_01_01_2_3_111 r w (ix3 b i (0 : Fin 1)) = r (ix3 b i k) := by
  unfold Host.gather
  refine congrArg r (funext fun a => Fin.ext ?_)
  let D := gather_S8x2048x2048_S8x2048x1x1_S8x2048x1_n_2_01_01_2_3_111
  show D.start (ix3 b i (0 : Fin 1)) w a + D.batchCoord (ix3 b i (0 : Fin 1)) a + D.offCoord (ix3 b i (0 : Fin 1)) a = _
  match a with
  | ⟨0, _⟩ =>
    have hb : (0 : Fin 3) ∈ D.operandBatchingDims := by decide
    rw [show (⟨0, _⟩ : Fin 3) = 0 from rfl, D.start_batching _ _ _ hb, D.offCoord_eq_zero _ _ (fun h => ((GatherDims.mem_sKept _ _).mp h).2 hb)]
    unfold GatherDims.batchCoord
    rw [dif_pos hb, Nat.zero_add, Nat.add_zero]
    rfl
  | ⟨1, _⟩ =>
    have hb : (1 : Fin 3) ∈ D.operandBatchingDims := by decide
    rw [show (⟨1, _⟩ : Fin 3) = 1 from rfl, D.start_batching _ _ _ hb, D.offCoord_eq_zero _ _ (fun h => ((GatherDims.mem_sKept _ _).mp h).2 hb)]
    unfold GatherDims.batchCoord
    rw [dif_pos hb, Nat.zero_add, Nat.add_zero]
    rfl
  | ⟨2, _⟩ =>
    have hc : (2 : Fin 3) ∈ D.collapsedSliceDims := by decide
    have hs : (2 : Fin 3) ∈ D.startIndexMap := by decide
    rw [show (⟨2, _⟩ : Fin 3) = 2 from rfl, D.batchCoord_eq_zero _ _ (by decide), D.offCoord_eq_zero _ _ (fun h => ((GatherDims.mem_sKept _ _).mp h).1 hc)]
    unfold GatherDims.start
    rw [dif_pos hs]
    have hi : D.siIdx (ix3 b i (0 : Fin 1)) ⟨D.startIndexMap.idxOf 2, List.idxOf_lt_length_iff.2 hs⟩ = ix4 b i (0 : Fin 1) (0 : Fin 1) := by
      funext a
      refine Fin.ext ?_
      match a with
      | ⟨0, _⟩ => rfl
      | ⟨1, _⟩ => rfl
      | ⟨2, _⟩ => rfl
      | ⟨3, _⟩ => rfl
    rw [hi, hw, toInt_col k]
    have := k.isLt
    show min k.val (2048 - 1) + 0 + 0 = k.val
    omega

theorem takeAlong_apply (r : V Ideal S8x2048x2048 .i32) (j : V Ideal S8x2048x1 .i32) (b : Fin 8) (i k : Fin 2048)
    (hj : j (ix3 b i (0 : Fin 1)) = BitVec.ofNat 32 k.val) :
    takeAlong (F := Ideal) r j (ix3 b i (0 : Fin 1)) = r (ix3 b i k) := by
  have hw := wrapped_apply j b i k hj
  unfold takeAlong
  generalize wrapped j = w at hw ⊢
  pointwise
  rw [gather_entry r w b i k hw]
  have hf : (Finset.fold IntOp.andi (1#1) (fun x : Fin 1 => IntOp.andi (IntOp.cmpi CmpIPredicate.sge (w (ix4 b i (0 : Fin 1) x)) 0#32)
      (IntOp.cmpi CmpIPredicate.sle (w (ix4 b i (0 : Fin 1) x)) 2047#32)) Finset.univ) = 1#1 := by
    rw [Finset.univ_unique, Finset.fold_singleton, show (default : Fin 1) = 0 from rfl, hw, in_row]
    rfl
  exact (congrArg (fun c => Scalar.select c (r (ix3 b i k)) 2147483648#32) hf).trans rfl

/-- The entries of a row-wise table at the named columns, less one. -/
theorem less_one (a : V Ideal S8x2048 .i32) (r : V Ideal S8x2048x2048 .i32) (b : Fin 8) (i k : Fin 2048)
    (hj : a (ix2 b i) = BitVec.ofNat 32 k.val) :
    subi (shapeCast _ (takeAlong (F := Ideal) r (broadcastInDim S8x2048x1 ![0, 1] bcast_S8x2048_S8x2048x1_0_1 a)) shapeCasts_S8x2048x1_S8x2048)
      (broadcastInDim S8x2048 ![] bcast_S_S8x2048 (constantI S_ 32 1#32)) (ix2 b i) = IntOp.subi (r (ix3 b i k)) 1#32 := by
  pointwise
  rw [takeAlong_apply r _ b i k]
  pointwise
  exact hj

/-- The ranks, written out. -/
theorem rank_eq {F : FTy → Type} [FloatOps F] (pv : V F S8x2048x2048 .f32) (mk : V F S8x2048x2048 .i1) :
    rank pv mk = subi (shapeCast _ (takeAlong (running mk) (broadcastInDim S8x2048x1 ![0, 1] bcast_S8x2048_S8x2048x1_0_1 (argMax pv)))
      shapeCasts_S8x2048x1_S8x2048) (broadcastInDim S8x2048 ![] bcast_S_S8x2048 (constantI S_ 32 1#32)) := rfl

/-- The count at the farthest counted column, less one. -/
theorem rank_apply (pv : V Ideal S8x2048x2048 .f32) (mk : V Ideal S8x2048x2048 .i1) (b : Fin 8) (i k : Fin 2048)
    (hj : argMax pv (ix2 b i) = BitVec.ofNat 32 k.val) : rank pv mk (ix2 b i) = IntOp.subi (running mk (ix3 b i k)) 1#32 :=
  (congrFun (rank_eq pv mk) (ix2 b i)).trans (less_one (argMax pv) (running mk) b i k hj)

/-- The row number an index array names, wrapped around from the end. -/
theorem rowIdx_apply (g : V Ideal S8x2048 .i32) (b : Fin 8) (i : Fin 2048) (c : BitVec 32) (hg : g (ix2 b i) = IntOp.subi c 1#32) :
    rowIdx (F := Ideal) g (ix3 b i (0 : Fin 1)) = backWord c := by
  pointwise [rowIdx]
  rw [hg]
  rfl

/-- The named rows, at an index. -/
theorem gather_row {e : EltTy} (x : V Ideal S8x2048x2048 e) (w : V Ideal S8x2048x1 .i32) (b : Fin 8) (i k j : Fin 2048)
    (hw : w (ix3 b i (0 : Fin 1)) = BitVec.ofNat 32 k.val) :
    Host.gather gather_S8x2048x2048_S8x2048x1_S8x2048x2048_2_1_0_0_1_2_112048 x w (ix3 b i j) = x (ix3 b k j) := by
  unfold Host.gather
  refine congrArg x (funext fun a => Fin.ext ?_)
  let D := gather_S8x2048x2048_S8x2048x1_S8x2048x2048_2_1_0_0_1_2_112048
  show D.start (ix3 b i j) w a + D.batchCoord (ix3 b i j) a + D.offCoord (ix3 b i j) a = _
  match a with
  | ⟨0, _⟩ =>
    have hb : (0 : Fin 3) ∈ D.operandBatchingDims := by decide
    rw [show (⟨0, _⟩ : Fin 3) = 0 from rfl, D.start_batching _ _ _ hb, D.offCoord_eq_zero _ _ (fun h => ((GatherDims.mem_sKept _ _).mp h).2 hb)]
    unfold GatherDims.batchCoord
    rw [dif_pos hb, Nat.zero_add, Nat.add_zero]
    rfl
  | ⟨1, _⟩ =>
    have hc : (1 : Fin 3) ∈ D.collapsedSliceDims := by decide
    have hs : (1 : Fin 3) ∈ D.startIndexMap := by decide
    rw [show (⟨1, _⟩ : Fin 3) = 1 from rfl, D.batchCoord_eq_zero _ _ (by decide), D.offCoord_eq_zero _ _ (fun h => ((GatherDims.mem_sKept _ _).mp h).1 hc)]
    unfold GatherDims.start
    rw [dif_pos hs]
    have hi : D.siIdx (ix3 b i j) ⟨D.startIndexMap.idxOf 1, List.idxOf_lt_length_iff.2 hs⟩ = ix3 b i (0 : Fin 1) := by
      funext a
      refine Fin.ext ?_
      match a with
      | ⟨0, _⟩ => rfl
      | ⟨1, _⟩ => rfl
      | ⟨2, _⟩ => rfl
    rw [hi, hw, toInt_col k]
    have := k.isLt
    show min k.val (2048 - 1) + 0 + 0 = k.val
    omega
  | ⟨2, _⟩ =>
    have hk : (2 : Fin 3) ∈ D.sKept := by decide
    rw [show (⟨2, _⟩ : Fin 3) = 2 from rfl, D.batchCoord_eq_zero _ _ (by decide)]
    unfold GatherDims.start GatherDims.offCoord
    rw [dif_neg (show ¬ (2 : Fin 3) ∈ D.startIndexMap by decide), dif_pos hk]
    exact Nat.zero_add _

/-- The rows named by a rank: the row at the wrapped count. -/
theorem rowsOf_apply {e : EltTy} (x : V Ideal S8x2048x2048 e) (g : V Ideal S8x2048 .i32) (b : Fin 8) (i j : Fin 2048) (c : ℕ) (hc : c ≤ 2048)
    (hg : g (ix2 b i) = IntOp.subi (BitVec.ofNat 32 c) 1#32) : rowsOf x g (ix3 b i j) = x (ix3 b (backPlace c) j) :=
  gather_row x _ b i (backPlace c) j ((rowIdx_apply g b i _ hg).trans (backWord_ofNat c hc))

end Cert.Proof.Ref
-- ==== Proof.RefSort.lean ====
/-
  The reference's nearest distances: the order that sorts a row, and the losses over its first places.
-/
module

public import proofs.«01_k».proof.Proof.RefRows
public import Idealize.ShloMosaic.Lib.SortFacts

@[expose] public section

set_option maxRecDepth 16384

noncomputable section

namespace Cert.Proof.Ref

open Cert.ReferenceIdeal Cert.ReferenceIdeal.Gen Idealize.ShloMosaic

/-- Whether a number is above another, as the sort's order on positions. -/
def above {n : ℕ} (f : Fin n → EReal) (k k' : Fin n) : Bool := FloatOps.cmpfTotal (F := Ideal) (φ := .f32) .gt (f k) (f k') == 1#1

theorem above_iff {n : ℕ} (f : Fin n → EReal) (k k' : Fin n) : above f k k' = true ↔ f k' < f k := by
  unfold above
  rw [Ideal.cmpfTotal_def]
  simp only [Ideal.cmp, CmpDirection.ordered]
  by_cases h : f k' < f k <;> simp [h]

/-- The order that sorts a row from its greatest entry down. -/
def order {n : ℕ} (f : Fin n → EReal) : Equiv.Perm (Fin n) :=
  Equiv.ofBijective (sortedFrom (above f)) ⟨sortedFrom_injective _, sortedFrom_surjective _⟩

theorem order_apply {n : ℕ} (f : Fin n → EReal) (k : Fin n) : order f k = sortedFrom (above f) k := rfl

theorem order_antitone {n : ℕ} (f : Fin n → EReal) : Antitone fun k => f (order f k) := by
  intro i j hij
  rcases eq_or_lt_of_le hij with rfl | h
  · exact le_refl _
  · have hf : ∀ a b, above f a b = false ↔ ¬ f b < f a := fun a b => by
      rw [← above_iff, Bool.not_eq_true]
    have := sortedFrom_noInversion (above f) (above f) (fun a b h => (hf _ _).mpr (not_lt.mpr ((above_iff f a b).mp h).le)) (fun _ _ h => h)
      (fun a b c h1 h2 => (hf _ _).mpr (not_lt.mpr ((not_lt.mp ((hf _ _).mp h1)).trans (not_lt.mp ((hf _ _).mp h2))))) i j h
    exact not_lt.mp ((hf _ _).mp this)

/-- The greatest entries along an axis, at an index. -/
theorem topK_at {s t : Shape} (d : ℕ) (x : FVec Ideal s .f32) (h : s.Slices (fun _ => 0) t) (hd : d < s.rank) (j : t.Idx) (y : s.Idx)
    (hy : ∀ a : Fin s.rank, (y a).val = 0 + (j (a.cast h.1.symm)).val) (g : Fin (s.size ⟨d, hd⟩) → s.Idx)
    (hg : ∀ k, y.along ⟨d, hd⟩ k = g k) :
    (Host.topK t d (FloatOps.cmpfTotal (F := Ideal) (φ := .f32) .gt) x h).1 j
      = x (g (sortedFrom (above fun k => x (g k)) (y ⟨d, hd⟩))) := by
  have e : (fun a => ⟨0 + (j (a.cast h.1.symm)).val, Nat.lt_of_lt_of_le (Nat.add_lt_add_left (j _).isLt _) (h.2 a)⟩ : s.Idx) = y :=
    funext fun a => Fin.ext (hy a).symm
  unfold Host.topK extractStridedSlice Host.sort2
  dsimp only
  rw [dif_pos hd]
  dsimp only
  rw [e]
  have e2 : (⟨0 + (j ((⟨d, hd⟩ : Fin s.rank).cast h.1.symm)).val, Nat.lt_of_lt_of_le (Nat.add_lt_add_left (j _).isLt _) (h.2 _)⟩ : Fin (s.size ⟨d, hd⟩))
      = y ⟨d, hd⟩ := Fin.ext (hy _).symm
  rw [e2]
  simp only [hg]
  rfl

theorem two_lt : 2 < S8x2048x2048.rank := by decide

/-- Along the columns. -/
theorem along_cols (b : Fin 8) (i j k : Fin 2048) : Shape.Idx.along (s := S8x2048x2048) (ix3 b i j) ⟨2, two_lt⟩ k = ix3 b i k := by
  funext a
  match a with
  | ⟨0, _⟩ => rfl
  | ⟨1, _⟩ => rfl
  | ⟨2, _⟩ => rfl

/-- The four greatest entries of a row are its first four in order. -/
theorem top4_apply (nd : V Ideal S8x2048x2048 .f32) (b : Fin 8) (i : Fin 2048) (r : Fin 4) :
    (Host.topK S8x2048x4 2 (FloatOps.cmpfTotal (F := Ideal) (φ := .f32) .gt) nd sliceFits_S8x2048x2048_S8x2048x4).1 (ix3 b i r)
      = nd (ix3 b i (order (fun k => nd (ix3 b i k)) (Fin.castLE (by decide) r))) := by
  rw [order_apply]
  have key := topK_at (s := (⟨S8x2048x2048, .f32⟩ : BufTy).shape) (t := S8x2048x4) 2 nd sliceFits_S8x2048x2048_S8x2048x4 two_lt (ix3 b i r) (ix3 b i (Fin.castLE (by decide) r))
    (fun a => ?_) (fun k : Fin 2048 => ix3 b i k) (along_cols b i _)
  · exact key
  match a with
  | ⟨0, _⟩ => exact (Nat.zero_add _).symm
  | ⟨1, _⟩ => exact (Nat.zero_add _).symm
  | ⟨2, _⟩ => exact (Nat.zero_add _).symm

/-- The three greatest entries of a row are its first three in order. -/
theorem top3_apply (nd : V Ideal S8x2048x2048 .f32) (b : Fin 8) (i : Fin 2048) (r : Fin 3) :
    (Host.topK S8x2048x3 2 (FloatOps.cmpfTotal (F := Ideal) (φ := .f32) .gt) nd sliceFits_S8x2048x2048_S8x2048x3).1 (ix3 b i r)
      = nd (ix3 b i (order (fun k => nd (ix3 b i k)) (Fin.castLE (by decide) r))) := by
  rw [order_apply]
  have key := topK_at (s := (⟨S8x2048x2048, .f32⟩ : BufTy).shape) (t := S8x2048x3) 2 nd sliceFits_S8x2048x2048_S8x2048x3 two_lt (ix3 b i r) (ix3 b i (Fin.castLE (by decide) r))
    (fun a => ?_) (fun k : Fin 2048 => ix3 b i k) (along_cols b i _)
  · exact key
  match a with
  | ⟨0, _⟩ => exact (Nat.zero_add _).symm
  | ⟨1, _⟩ => exact (Nat.zero_add _).symm
  | ⟨2, _⟩ => exact (Nat.zero_add _).symm

open Classical in
theorem negNear_apply (p : BitVec 32) (x : V Ideal S8x2048x2048 .f32) (lab : V Ideal S8x2048x2048 .i32) (b : Fin 8) (i j : Fin 2048) :
    negNear p lab x (ix3 b i j) = - (if lab (ix3 b i j) = p then x (ix3 b i j) else hi) := by
  pointwise [negNear, whereElse]
  by_cases h : lab (ix3 b i j) = p
  · rw [if_pos h, h]
    simp [Scalar.select, IntOp.cmpi]
  · rw [if_neg h]
    simp only [Scalar.select, IntOp.cmpi, beq_eq_false_iff_ne.mpr h]
    rfl

/-- A real's deviation as the reference takes it. -/
theorem dev_real (p v : ℝ) : FloatOps.absf (F := Ideal) (φ := .f32) ((p : EReal) - - ((-v : ℝ) : EReal)) = ((|p - v| : ℝ) : EReal) := by
  rw [Ideal.absf_def, ← EReal.coe_neg, neg_neg, ← EReal.coe_sub, ← EReal.coe_neg, abs_eq_max_neg]
  exact (EReal.coe_strictMono.monotone.map_max).symm

/-- The words of the constants. -/
theorem word_one : Ideal.ofBits .f32 0x3F800000#32 = ((1 : ℝ) : EReal) := by
  simp [Ideal.ofBits, Ideal.ieee]; rw [← EReal.coe_mul, ← EReal.coe_one]; norm_num
theorem word_two : Ideal.ofBits .f32 0x40000000#32 = ((2 : ℝ) : EReal) := by
  simp [Ideal.ofBits, Ideal.ieee]; rw [← EReal.coe_mul]; norm_num
theorem word_three : Ideal.ofBits .f32 0x40400000#32 = (((3 : ℕ) : ℝ) : EReal) := by
  simp [Ideal.ofBits, Ideal.ieee]; rw [← EReal.coe_mul]; norm_num
theorem word_four : Ideal.ofBits .f32 0x40800000#32 = (((4 : ℕ) : ℝ) : EReal) := by
  simp [Ideal.ofBits, Ideal.ieee]; rw [← EReal.coe_mul]; norm_num
theorem word_hi : hi = ((1000000015047466219876688855040 : ℝ) : EReal) := by
  unfold hi; simp [Ideal.ofBits, Ideal.ieee]; rw [← EReal.coe_pow, ← EReal.coe_mul]; norm_num

variable (nd : V Ideal S8x2048x2048 .f32) (b : Fin 8) (i : Fin 2048) (f : Fin 2048 → ℝ)

theorem order_monotone (hf : ∀ j, nd (ix3 b i j) = ((-f j : ℝ) : EReal)) : Monotone fun k => f (order (fun k => nd (ix3 b i k)) k) := by
  intro k l hkl
  have := order_antitone (fun k => nd (ix3 b i k)) hkl
  dsimp only at this ⊢
  rw [hf, hf] at this
  exact neg_le_neg_iff.mp (EReal.coe_le_coe_iff.mp this)

/-- The first-pass loss of a real row is the rounds' value. -/
theorem loss4_value (hf : ∀ j, nd (ix3 b i j) = ((-f j : ℝ) : EReal)) (hB : ∀ j, f j ≤ 1000000015047466219876688855040) :
    loss4 nd (ix2 b i) = ((Round.next (Ideal.ofBits .f32 0x3F800000#32) (Ideal.ofBits .f32 0x40800000#32) hi)^[4]
      (Round.start fun j => (f j : EReal))).value := by
  have hd : ∀ r : Fin 4, dev4 nd (ix3 b i r) = ((|1 - f (order (fun k => nd (ix3 b i k)) (Fin.castLE (by decide) r))| : ℝ) : EReal) := by
    intro r
    pointwise [dev4]
    rw [top4_apply, hf]
    exact dev_real 1 _
  rw [word_one, word_four, word_hi, rounds_value (by decide) (by decide) (order_monotone nd b i f hf) hB, expSum_eq_sum (by decide)]
  have hm : max4 (dev4 nd) (ix2 b i) = Finset.univ.sup fun r => dev4 nd (ix3 b i r) := by
    pointwise [max4]
    rw [show Ideal.ofBits FTy.f32 4286578688#32 = ⊥ from Ker.ofBits_bot]
    rfl
  unfold loss4
  pointwise [lse4]
  rw [hm]
  simp only [hd]
  exact shifted_log (by decide) _

/-- The second-pass loss of a real row is the rounds' value. -/
theorem loss3_value (hf : ∀ j, nd (ix3 b i j) = ((-f j : ℝ) : EReal)) (hB : ∀ j, f j ≤ 1000000015047466219876688855040) :
    loss3 nd (ix2 b i) = ((Round.next (Ideal.ofBits .f32 0x40000000#32) (Ideal.ofBits .f32 0x40400000#32) hi)^[3]
      (Round.start fun j => (f j : EReal))).value := by
  have hd : ∀ r : Fin 3, dev3 nd (ix3 b i r) = ((|2 - f (order (fun k => nd (ix3 b i k)) (Fin.castLE (by decide) r))| : ℝ) : EReal) := by
    intro r
    pointwise [dev3]
    rw [top3_apply, hf]
    refine (congrArg (fun z : EReal => FloatOps.absf (F := Ideal) (φ := .f32) (z - _)) (?_ : _ = ((2 : ℝ) : EReal))).trans (dev_real 2 _)
    exact word_two
  rw [word_two, word_three, word_hi, rounds_value (by decide) (by decide) (order_monotone nd b i f hf) hB, expSum_eq_sum (by decide)]
  have hm : max3 (dev3 nd) (ix2 b i) = Finset.univ.sup fun r => dev3 nd (ix3 b i r) := by
    pointwise [max3]
    rw [show Ideal.ofBits FTy.f32 4286578688#32 = ⊥ from Ker.ofBits_bot]
    rfl
  unfold loss3
  pointwise [lse3]
  rw [hm]
  simp only [hd]
  exact shifted_log (by decide) _

end Cert.Proof.Ref
-- ==== Proof.RefValue.lean ====
/-
  What the reference computes on bounded points: the average of the squared losses, row by row as the kernel takes them.
-/
module

public import proofs.«01_k».proof.Proof.RefGather
public import proofs.«01_k».proof.Proof.RefSort
public import proofs.«01_k».proof.Proof.KernelValue

@[expose] public section

set_option maxRecDepth 16384

noncomputable section

namespace Cert.Proof.Ref

open Cert.ReferenceIdeal Cert.ReferenceIdeal.Gen Idealize.ShloMosaic

/-- Points that are reals of size at most `2^46`. -/
def Bounded (X : Pts) : Prop := ∀ b i c, ∃ r : ℝ, X b i c = (r : EReal) ∧ |r| ≤ 2 ^ 46

/-- Distances between bounded points are reals below the high filler. -/
theorem dline_real {X : Pts} (hX : Bounded X) (b : Fin 8) (i j : Fin 2048) :
    ∃ d : ℝ, dline X b i j = (d : EReal) ∧ d ≤ 1000000015047466219876688855040 := by
  choose r hr hb using hX
  have h2 : ∀ k l : Fin 2048, ∀ c, |r b k c * r b l c| ≤ 2 ^ 92 := fun k l c => by
    rw [abs_mul]
    calc |r b k c| * |r b l c| ≤ 2 ^ 46 * 2 ^ 46 := mul_le_mul (hb b k c) (hb b l c) (abs_nonneg _) (by positivity)
      _ = 2 ^ 92 := by norm_num
  have hs : ∀ k l : Fin 2048, |∑ c, r b k c * r b l c| ≤ 2 ^ 97 := fun k l => by
    calc |∑ c, r b k c * r b l c| ≤ ∑ c, |r b k c * r b l c| := Finset.abs_sum_le_sum_abs _ _
      _ ≤ ∑ _c : Fin 32, (2 : ℝ) ^ 92 := Finset.sum_le_sum fun c _ => h2 k l c
      _ = 2 ^ 97 := by simp; norm_num
  have hc : ∀ k l : Fin 2048, ∑ c, X b k c * X b l c = ((∑ c, r b k c * r b l c : ℝ) : EReal) := fun k l => by
    rw [coe_sum]
    exact Finset.sum_congr rfl fun c _ => by rw [hr, hr, EReal.coe_mul]
  refine ⟨((∑ c, r b i c * r b i c) + ∑ c, r b j c * r b j c) - 2 * ∑ c, r b i c * r b j c, ?_, ?_⟩
  · unfold dline
    rw [hc, hc, hc, word_two, ← EReal.coe_mul, ← EReal.coe_add, ← EReal.coe_sub]
  · have h1 := (abs_le.mp (hs i i)).2
    have h3 := (abs_le.mp (hs j j)).2
    have h4 := (abs_le.mp (hs i j)).1
    have : (2 : ℝ) ^ 97 * 4 ≤ 1000000015047466219876688855040 := by norm_num
    linarith

/-- So are the distances with the high filler put in. -/
theorem nearLine_real {X : Pts} (hX : Bounded X) (T : Labs) (p : BitVec 32) (b : Fin 8) (i j : Fin 2048) :
    ∃ d : ℝ, nearLine X T p b i j = (d : EReal) ∧ d ≤ 1000000015047466219876688855040 := by
  unfold nearLine
  by_cases h : T b i j = p
  · rw [if_pos h]; exact dline_real hX b i j
  · rw [if_neg h]; exact ⟨_, word_hi, le_refl _⟩

/-- The low filler is above minus infinity, and so is every kept distance. -/
theorem kept_above {X : Pts} (hX : Bounded X) (T : Labs) (b : Fin 8) (i j : Fin 2048) : ⊥ < keptLine X T b i j := by
  unfold keptLine kept
  by_cases h : Counts (T b i) (dline X b i) j
  · rw [if_pos h]
    obtain ⟨d, hd, -⟩ := dline_real hX b i j
    rw [hd]
    exact EReal.bot_lt_coe d
  · rw [if_neg h]
    have : lo = ((-1000000015047466219876688855040 : ℝ) : EReal) := by
      unfold lo; simp [Ideal.ofBits, Ideal.ieee]; rw [← EReal.coe_pow, ← EReal.coe_mul]; norm_num
    rw [this]
    exact EReal.bot_lt_coe _

/-- A first-pass loss over a row of negated distances is the row's first term. -/
theorem loss4_row {X : Pts} (hX : Bounded X) (T : Labs) (nd : V Ideal S8x2048x2048 .f32) (b : Fin 8) (i k : Fin 2048)
    (h : ∀ j, nd (ix3 b i j) = - nearLine X T 1#32 b k j) : loss4 nd (ix2 b i) = term4 X T b k := by
  choose f hf hB using nearLine_real hX T 1#32 b k
  unfold term4
  rw [loss4_value nd b i f (fun j => by rw [h, hf, EReal.coe_neg]) hB, show nearLine X T 1#32 b k = fun j => (f j : EReal) from funext hf]

/-- A second-pass loss over a row of negated distances is the row's second term. -/
theorem loss3_row {X : Pts} (hX : Bounded X) (T : Labs) (nd : V Ideal S8x2048x2048 .f32) (b : Fin 8) (i k : Fin 2048)
    (h : ∀ j, nd (ix3 b i j) = - nearLine X T 2#32 b k j) : loss3 nd (ix2 b i) = term3 X T b k := by
  choose f hf hB using nearLine_real hX T 2#32 b k
  unfold term3
  rw [loss3_value nd b i f (fun j => by rw [h, hf, EReal.coe_neg]) hB, show nearLine X T 2#32 b k = fun j => (f j : EReal) from funext hf]

variable (x : V Ideal S8x2048x32 .f32) (lab : V Ideal S8x2048x2048 .i32)

/-- The negated distances of a row. -/
theorem near_own (p : BitVec 32) (b : Fin 8) (i j : Fin 2048) :
    negNear p lab (dist x) (ix3 b i j) = - nearLine (ptsOf x) (labsOf lab) p b i j := by
  rw [negNear_apply, dist_apply]
  rfl

/-- The kept distances. -/
abbrev keptArr : V Ideal S8x2048x2048 .f32 := whereElse 0xF149F2CA#32 (mask lab (dist x)) (dist x)

/-- The rank of a row: the count at its farthest counted column, less one. -/
theorem rank_row (hX : Bounded (ptsOf x)) (b : Fin 8) (i : Fin 2048) :
    rank (keptArr x lab) (mask lab (dist x)) (ix2 b i)
      = IntOp.subi (BitVec.ofNat 32 (countTo (labsOf lab b i) (dline (ptsOf x) b i) (first (ptsOf x) (labsOf lab) b i))) 1#32 := by
  have hk : (fun j => keptArr x lab (ix3 b i j)) = keptLine (ptsOf x) (labsOf lab) b i := funext fun j => kept_apply x lab b i j
  rw [rank_apply _ _ b i (first (ptsOf x) (labsOf lab) b i) (argMax_apply _ b i _ (by rw [hk]; exact first_spec _ _ b i)
    (lt_of_lt_of_eq (kept_above hX _ b i _) (kept_apply x lab b i _).symm)),
    running_apply _ (labsOf lab b i) (dline (ptsOf x) b i) b i _ fun k => mask_apply x lab b i k]

/-- The negated distances of a row's partner. -/
theorem near_place (hX : Bounded (ptsOf x)) (p : BitVec 32) (b : Fin 8) (i j : Fin 2048) :
    negNear p (rowsOf (e := .i32) lab (rank (keptArr x lab) (mask lab (dist x)))) (rowsOf (e := .f32) (dist x) (rank (keptArr x lab) (mask lab (dist x)))) (ix3 b i j)
      = - nearLine (ptsOf x) (labsOf lab) p b (place (ptsOf x) (labsOf lab) b i) j := by
  have hg := rank_row x lab hX b i
  rw [negNear_apply, rowsOf_apply (e := .i32) lab _ b i j _ (countTo_le _ _ _) hg, rowsOf_apply (e := .f32) (dist x) _ b i j _ (countTo_le _ _ _) hg, dist_apply]
  rfl

/-- A row's loss, the zero it starts from left out. -/
theorem spread_zero (b : Fin 8) (i : Fin 2048) : spread (F := Ideal) zeros (ix2 b i) = 0 := by
  pointwise [spread, zeros]

/-- Scaling a sum of nonnegative terms. -/
theorem sum_scale {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem word_2048 : Ideal.ofBits .f32 0x45000000#32 = ((2048 : ℝ) : EReal) := by
  simp [Ideal.ofBits, Ideal.ieee]; rw [← EReal.coe_mul]; norm_num
theorem word_eight : Ideal.ofBits .f32 0x41000000#32 = ((8 : ℝ) : EReal) := by
  simp [Ideal.ofBits, Ideal.ieee]; rw [← EReal.coe_mul]; norm_num
theorem word_16384 : Ideal.ofBits .f32 0x46800000#32 = ((16384 : ℝ) : EReal) := by
  simp [Ideal.ofBits, Ideal.ieee]; rw [← EReal.coe_mul]; norm_num

/-- A batch's sum of squares is not negative. -/
theorem batchSum_nonneg (X : Pts) (T : Labs) (b : Fin 8) : 0 ≤ batchSum X T b := by
  unfold batchSum
  have h : ∀ i, 0 ≤ joint X T b i := fun i => by
    unfold joint
    rw [Ideal.ofBits_zero_f32]
    exact le_max_right _ _
  exact Finset.sum_nonneg fun i _ => mul_nonneg (h i) (h i)

/-- The average over rows, then batches, is the sum over batches of the scaled sums of squares. -/
theorem average_value (X : Pts) (T : Labs) (l pp : V Ideal S8x2048 .f32) (h : ∀ b i, max (l (ix2 b i) + pp (ix2 b i)) 0 = joint X T b i) (j : S_.Idx) :
    average l pp j = Ker.val X T := by
  pointwise [average]
  simp only [h]
  unfold Ker.val
  show Ideal.div (∑ b, Ideal.div (batchSum X T b) (Ideal.ofBits .f32 0x45000000#32)) (Ideal.ofBits .f32 0x41000000#32) = _
  rw [word_2048, word_eight, word_16384, Ideal.div_coe (by norm_num)]
  simp only [Ideal.div_coe (show (2048 : ℝ) ≠ 0 by norm_num), Ideal.div_coe (show (16384 : ℝ) ≠ 0 by norm_num)]
  rw [sum_scale _ _ fun b => mul_nonneg (batchSum_nonneg X T b) (by rw [← EReal.coe_zero]; exact EReal.coe_le_coe_iff.mpr (by norm_num))]
  refine Finset.sum_congr rfl fun b _ => ?_
  rw [mul_assoc, ← EReal.coe_mul]
  norm_num

/-- The reference's result on bounded points. -/
theorem out_value (hX : Bounded (ptsOf x)) (j : S_.Idx) : out x lab j = Ker.val (ptsOf x) (labsOf lab) := by
  unfold out
  refine average_value (ptsOf x) (labsOf lab) _ _ (fun b i => ?_) j
  rw [rowMax_apply]
  pointwise
  rw [spread_zero, loss4_row hX (labsOf lab) _ b i i (near_own x lab 1#32 b i), loss3_row hX (labsOf lab) _ b i i (near_own x lab 2#32 b i),
    loss4_row hX (labsOf lab) _ b i _ (near_place x lab hX 1#32 b i), loss3_row hX (labsOf lab) _ b i _ (near_place x lab hX 2#32 b i)]
  simp only [kept_apply]
  unfold joint own top
  rw [Ideal.ofBits_zero_f32, zero_add]
  congr 2
  abel

end Cert.Proof.Ref
-- ==== Proof.Bound.lean ====
/-
  What the precondition says: every coordinate of the points is a real of size at most `2^46`.
-/
module

public import proofs.«01_k».proof.Pre_inputs_bounded
public import proofs.«01_k».proof.Proof.RefValue

@[expose] public section

noncomputable section

namespace Cert.Proof

open Idealize.ShloMosaic Cert.Pre_inputs_bounded

/-- The precondition's one side condition: a scalar spreads over the points. -/
theorem bound_facts : Cert.Pre_inputs_bounded.Facts := ⟨by decide⟩

/-- The word of the precondition is `2^46`. -/
theorem word_bound : Ideal.ofBits .f32 0x56800000#32 = ((2 ^ 46 : ℝ) : EReal) := by
  simp [Ideal.ofBits, Ideal.ieee]; rw [← EReal.coe_pow, ← EReal.coe_mul, ← EReal.coe_pow]; norm_num

/-- An extended real of size at most `2^46` is a real. -/
theorem real_of_le (z : EReal) (h : max z (-z) ≤ ((2 ^ 46 : ℝ) : EReal)) : ∃ r : ℝ, z = (r : EReal) ∧ |r| ≤ 2 ^ 46 := by
  induction z with
  | bot => exact absurd (lt_of_le_of_lt ((le_max_right _ _).trans h) (EReal.coe_lt_top _)) (by simp)
  | top => exact absurd (lt_of_le_of_lt ((le_max_left _ _).trans h) (EReal.coe_lt_top _)) (by simp)
  | coe r =>
    refine ⟨r, rfl, abs_le.mpr ⟨?_, ?_⟩⟩
    · have := (le_max_right _ _).trans h
      rw [← EReal.coe_neg, EReal.coe_le_coe_iff] at this
      linarith
    · exact EReal.coe_le_coe_iff.mp ((le_max_left _ _).trans h)

/-- Where the precondition holds the points are bounded. -/
theorem bounded_of_pre [Cert.Pre_inputs_bounded.Facts] (x : FVec Ideal S8x2048x32 .f32) (t : IVec S8x2048x2048 32)
    (h : Cert.Pre_inputs_bounded.fn (F := Ideal) x t = fun _ => 1#1) : Ref.Bounded (Ref.ptsOf x) := by
  intro b i c
  refine real_of_le _ ?_
  have hb := congrFun h (ix3 b i c)
  have hb : Ideal.cmp .ole (max (x (ix3 b i c)) (-x (ix3 b i c))) (Ideal.ofBits .f32 0x56800000#32) = 1#1 := hb
  rw [word_bound] at hb
  by_contra hc
  have hc : ¬ max (x (ix3 b i c)) (-x (ix3 b i c)) ≤ ((2 ^ 46 : ℝ) : EReal) := hc
  simp only [Ideal.cmp, decide_eq_false hc] at hb
  exact absurd hb (by decide)

end Cert.Proof
-- ==== Proof.lean ====
/-
  The proof of `Cert.Claim`: the three frames, the idealization, and the value claim, each put together from
  the modules under Proof/.

  The kernel's two calls leave `Ker.val` of the points and labels (Proof/KernelRun, Proof/KernelValue); the
  reference's operations leave `Ref.out` (Proof/RefOps, Proof/RefRead), which on bounded points is that same
  number (Proof/RefValue). Proof/Bound reads the bound off the precondition.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.KernelValue
public import proofs.«01_k».proof.Proof.RefOps
public import proofs.«01_k».proof.Proof.RefRead
public import proofs.«01_k».proof.Proof.RefValue
public import proofs.«01_k».proof.Proof.Bound
public import Idealize.ShloMosaic.Adequacy
public import Idealize.ShloMosaic.Init

@[expose] public section

noncomputable section

namespace Cert.Proof

open Idealize.ShloMosaic Idealize.SL.Sem

/-- The reference runs, leaves its two arguments as they were, and ends with every counter at zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0 :=
  (θ_run (Cert.ReferenceIdeal.defs (F := Ideal)) _ _).mono
    (fun r h => ⟨fun c => ⟨(h c _).trans (Ref.final_main_arg0 _), (h c _).trans (Ref.final_main_arg1 _)⟩,
      sem_eq_zero_of_no_sems (by decide) r.2⟩)
    (Ref.run m ρ)

/-- From memories that agree on bounded arguments the kernel and the reference end with the same number. -/
theorem values [Cert.Pre_inputs_bounded.Facts] :
    Cert.algebraic_KernelIdeal_ReferenceIdeal_pre_inputs_bounded := by
  intro m g m' g' hpre hagree
  refine ⟨fun c => (fun _ => Ker.val (Ker.Xm m c) (Ker.Tm m c)), ?_, ?_⟩
  · exact (θ_run (Cert.KernelIdeal.defs (F := Ideal)) _ _).mono
      (fun r h c => ⟨(h.1 c).trans (Ker.W4_v5 m g c), h.2.1 c⟩)
      (θ_run_and (Ker.run m g) (Cert.KernelIdeal.Gen.frame m g))
  · refine (θ_run (Cert.ReferenceIdeal.defs (F := Ideal)) _ _).mono (fun r h c => ⟨?_, ?_, ?_⟩) (Ref.run m' g')
    · refine (h c _).trans ((Ref.final_main_v120 _).trans ?_)
      rw [StableHlo.launchContents_devRef, StableHlo.launchContents_devRef, (hagree c).1, (hagree c).2]
      exact funext fun j => Ref.out_value _ _ (bounded_of_pre _ _ (hpre c)) j
    · exact (h c _).trans (Ref.final_main_arg0 _)
    · exact (h c _).trans (Ref.final_main_arg1 _)

/-- Every claim made of the kernel holds. -/
theorem claim : Cert.Claim :=
  ⟨Cert.Kernel.Gen.facts, Cert.KernelIdeal.Gen.facts, Cert.ReferenceIdeal.Gen.facts, bound_facts,
    fun m ρ _ => Cert.Kernel.Gen.frame m ρ,
    fun m ρ _ => Cert.KernelIdeal.Gen.frame m ρ,
    fun m ρ _ => Cert.KernelIdeal.Gen.frame m ρ,
    fun m ρ _ => ref_frame m ρ,
    fun m ρ _ => ref_frame m ρ,
    trivial,
    @values bound_facts⟩

end Cert.Proof

end
